-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![2048, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x2048 : Shape := ⟨2, ![512, 2048]⟩
abbrev S4x2x512x512 : Shape := ⟨4, ![4, 2, 512, 512]⟩
abbrev S3x2 : Shape := ⟨2, ![3, 2]⟩
abbrev S_ : Shape := ⟨0, ![]⟩
abbrev S512x512 : Shape := ⟨2, ![512, 512]⟩
abbrev S1x1x512x512 : Shape := ⟨4, ![1, 1, 512, 512]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S512x2048, .bf16⟩
  | .hbm, ⟨2, _⟩ => ⟨S512x2048, .f32⟩
  | .local _ .vmem, ⟨0, _⟩ => ⟨S2048x512, .bf16⟩
  | .local _ .vmem, ⟨1, _⟩ => ⟨S512x2048, .bf16⟩
  | .local _ .vmem, ⟨2, _⟩ => ⟨S512x2048, .f32⟩
  | .local _ .vmem, ⟨3, _⟩ => ⟨S2048x512, .bf16⟩
  | .local _ .vmem, ⟨4, _⟩ => ⟨S4x2x512x512, .bf16⟩
  | .local _ .vmem, ⟨5, _⟩ => ⟨S4x2x512x512, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_15 : BitVec 32 := 4#32
  let v20 : BitVec 32 := Scalar.addi v2 c4_i32_15
  let c1_i32_16 : BitVec 32 := 1#32
  let v21 : BitVec 32 := Scalar.subi v20 c1_i32_16
  let c4_i32_17 : BitVec 32 := 4#32
  let v22 : BitVec 32 := Scalar.remsi v21 c4_i32_17
  let c512_i32 : BitVec 32 := 512#32
  let v25 : BitVec 32 := Scalar.muli v22 c512_i32
  let v26 : Index := Scalar.indexCast v25
  let c0_20 : Index := 0#32
  ![v26.toNat, 0]
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_33 : BitVec 32 := 1#32
  let v34 : BitVec 32 := Scalar.muli v7 c1_i32_33
  let v35 : BitVec 32 := Scalar.addi c0_i32_34 v34
  v35.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v23 : BitVec 32 := Scalar.addi v2 c1_i32_18
  let c4_i32_19 : BitVec 32 := 4#32
  let v24 : BitVec 32 := Scalar.remsi v23 c4_i32_19
  let c512_i32_39 : BitVec 32 := 512#32
  let v44 : BitVec 32 := Scalar.muli v24 c512_i32_39
  let v45 : Index := Scalar.indexCast v44
  let c0_40 : Index := 0#32
  ![v45.toNat, 0]
def k0_dev4 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_54 : BitVec 32 := 1#32
  let v53 : BitVec 32 := Scalar.muli v5 c1_i32_54
  let v54 : BitVec 32 := Scalar.addi c0_i32_55 v53
  v54.toNat
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_74 : BitVec 32 := 1#32
  let v72 : BitVec 32 := Scalar.muli v7 c1_i32_74
  let v73 : BitVec 32 := Scalar.addi c0_i32_75 v72
  v73.toNat
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_95 : BitVec 32 := 1#32
  let v91 : BitVec 32 := Scalar.muli v5 c1_i32_95
  let v92 : BitVec 32 := Scalar.addi c0_i32_96 v91
  v92.toNat
def k0_off3 (d0 : Dev nD) (c0_i32_101 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v101 : BitVec 32 := Scalar.addi v2 c8_i32
  let v102 : BitVec 32 := Scalar.subi v101 c0_i32_101
  let c2_i32_102 : BitVec 32 := 2#32
  let v103 : BitVec 32 := Scalar.subi v102 c2_i32_102
  let c4_i32_103 : BitVec 32 := 4#32
  let v104 : BitVec 32 := Scalar.remsi v103 c4_i32_103
  let c512_i32_104 : BitVec 32 := 512#32
  let v105 : BitVec 32 := Scalar.muli v104 c512_i32_104
  let v106 : Index := Scalar.indexCast v105
  let c0_105 : Index := 0#32
  ![v106.toNat, 0]
def k0_off4 (d0 : Dev nD) (c0_i32_114 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v121 : BitVec 32 := Scalar.addi v2 c0_i32_114
  let c2_i32_115 : BitVec 32 := 2#32
  let v122 : BitVec 32 := Scalar.addi v121 c2_i32_115
  let c4_i32_116 : BitVec 32 := 4#32
  let v123 : BitVec 32 := Scalar.remsi v122 c4_i32_116
  let c512_i32_117 : BitVec 32 := 512#32
  let v124 : BitVec 32 := Scalar.muli v123 c512_i32_117
  let v125 : Index := Scalar.indexCast v124
  let c0_118 : Index := 0#32
  ![v125.toNat, 0]
def k0_dev7 (d0 : Dev nD) : Nat :=
  let c0_i32_157 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_156 : BitVec 32 := 1#32
  let v153 : BitVec 32 := Scalar.muli v7 c1_i32_156
  let v154 : BitVec 32 := Scalar.addi c0_i32_157 v153
  v154.toNat
def k0_dev8 (d0 : Dev nD) : Nat :=
  let c0_i32_193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_192 : BitVec 32 := 1#32
  let v177 : BitVec 32 := Scalar.muli v5 c1_i32_192
  let v178 : BitVec 32 := Scalar.addi c0_i32_193 v177
  v178.toNat
def k0_dev9 (d0 : Dev nD) : Nat :=
  let c0_i32_229 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_228 : BitVec 32 := 1#32
  let v201 : BitVec 32 := Scalar.muli v7 c1_i32_228
  let v202 : BitVec 32 := Scalar.addi c0_i32_229 v201
  v202.toNat
def k0_dev10 (d0 : Dev nD) : Nat :=
  let c0_i32_265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_264 : BitVec 32 := 1#32
  let v225 : BitVec 32 := Scalar.muli v5 c1_i32_264
  let v226 : BitVec 32 := Scalar.addi c0_i32_265 v225
  v226.toNat
def k0_dev11 (d0 : Dev nD) : Nat :=
  let c0_i32_325 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_324 : BitVec 32 := 1#32
  let v287 : BitVec 32 := Scalar.muli v7 c1_i32_324
  let v288 : BitVec 32 := Scalar.addi c0_i32_325 v287
  v288.toNat
def k0_dev12 (d0 : Dev nD) : Nat :=
  let c0_i32_361 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_360 : BitVec 32 := 1#32
  let v311 : BitVec 32 := Scalar.muli v5 c1_i32_360
  let v312 : BitVec 32 := Scalar.addi c0_i32_361 v311
  v312.toNat
def k0_dev13 (d0 : Dev nD) : Nat :=
  let c0_i32_397 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_396 : BitVec 32 := 1#32
  let v335 : BitVec 32 := Scalar.muli v7 c1_i32_396
  let v336 : BitVec 32 := Scalar.addi c0_i32_397 v335
  v336.toNat
def k0_dev14 (d0 : Dev nD) : Nat :=
  let c0_i32_433 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_432 : BitVec 32 := 1#32
  let v359 : BitVec 32 := Scalar.muli v5 c1_i32_432
  let v360 : BitVec 32 := Scalar.addi c0_i32_433 v359
  v360.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Same.lean ====
/- The program stated on the machine's floats and the one stated over the reals are one program: no operation was
   rewritten, so the two agree definition by definition, and a run of the one is a run of the other. -/
module

public import proofs.«01_k».proof.Defs
public import proofs.«01_k».proof.Proof.Gen.Kernel
public import proofs.«01_k».proof.Proof.Gen.KernelIdeal

@[expose] public section

noncomputable section

namespace Cert.AllToAllSum

open Idealize.ShloMosaic Idealize.SL.Sem

variable {F : FTy → Type} [FloatOps F]

/-- The two main programs are the same. -/
theorem same_main : Cert.Kernel.main (F := F) = Cert.KernelIdeal.main (F := F) := rfl

set_option maxRecDepth 40000 in
/-- The two kernel bodies are the same. -/
theorem same_body : Cert.Kernel.cc0_body (F := F) = Cert.KernelIdeal.cc0_body (F := F) := rfl

/-- So are the tables naming them, at their one label. -/
theorem same_table : Cert.Kernel.defs₀ (F := F) = Cert.KernelIdeal.defs₀ (F := F) := by
  unfold Cert.Kernel.defs₀ Cert.KernelIdeal.defs₀
  refine congrArg Defs.onTc (funext fun l => ?_)
  match l with
  | ⟨0, _⟩ => exact funext fun _ => by rw [same_body]

/-- And so are the whole tables, with the launch's part. -/
theorem same_defs : Cert.Kernel.defs (F := F) = Cert.KernelIdeal.defs (F := F) :=
  congrArg (Pipeline.defs (Cert.KernelIdeal.pcfgs (F := F))) same_table

/-- What every run of the one ends in, every run of the other ends in. -/
theorem same_run (s : MemSt Cert.Kernel.nD Cert.Kernel.τ Cert.Kernel.sig (Elt F)) (Q : _ → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q :=
  (congrArg (fun D => θ_run D (onTc (τ := Cert.Kernel.τ) (Cert.Kernel.main (F := F))) s Q) same_defs).mpr h

end Cert.AllToAllSum

end
-- ==== Proof.Names.lean ====
/-
# The ring, the slots of the two exchange buffers, the semaphores and the values that travel

Four devices stand in a ring. A transfer is named by a direction (`true`: to the right neighbour, `false`: to the
left one), a hop `h = 0, 1, 2` and a half `j = 0, 1`; it carries slot `(h, j)` of its direction's exchange buffer on
the sender to slot `(h + 1, j)` of the same buffer on the receiver.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.AllToAllSum

open Cert.KernelIdeal Cert.KernelIdeal.Gen
open Idealize.ShloMosaic
open Idealize.ShloMosaic.TcCoe

variable {F : FTy → Type} [FloatOps F]

/-! ## The ring -/

set_option backward.proofsInPublic true in
/-- The right neighbour. -/
def right (c : Dev nD) : Dev nD := ⟨(c.val + 1) % 4, Nat.mod_lt _ (by decide)⟩
set_option backward.proofsInPublic true in
/-- The left neighbour. -/
def left (c : Dev nD) : Dev nD := ⟨(c.val + 3) % 4, Nat.mod_lt _ (by decide)⟩

/-- Where a device's transfers of direction `b` go. -/
def tgt : Bool → Dev nD → Dev nD
  | true => right
  | false => left
/-- Where a device's arrivals of direction `b` come from. -/
def src : Bool → Dev nD → Dev nD
  | true => left
  | false => right

theorem tgt_src (b : Bool) (c : Dev nD) : tgt b (src b c) = c := by revert b c; decide
theorem src_tgt (b : Bool) (c : Dev nD) : src b (tgt b c) = c := by revert b c; decide

/-- The neighbour of direction `b` as a permutation of the devices. -/
def turn (b : Bool) : Dev nD ≃ Dev nD := ⟨tgt b, src b, src_tgt b, tgt_src b⟩

/-- The transfers: direction, hop, half. -/
abbrev Xf : Type := Bool × Fin 3 × Fin 2

/-! ## The buffers -/

abbrev xM : Memref sig .tc .vmem S2048x512 .bf16 := Memref.whole cc0_stg0_0
abbrev wM : Memref sig .tc .vmem S512x2048 .bf16 := Memref.whole cc0_stg1_0
abbrev oM : Memref sig .tc .vmem S512x2048 .f32 := Memref.whole cc0_stg2_0
abbrev bM : Memref sig .tc .vmem S2048x512 .bf16 := Memref.whole cc0_scratch0

/-- The exchange buffer of a direction. -/
@[reducible] def commR : Bool → Ref sig .tc
  | true => cc0_scratch1
  | false => cc0_scratch2
/-- The same as a memref. -/
@[reducible] def commM : Bool → Memref sig .tc .vmem S4x2x512x512 .bf16
  | true => Memref.whole cc0_scratch1
  | false => Memref.whole cc0_scratch2

theorem slot_inb : ∀ (s : Fin 4) (j : Fin 2) (a : Fin 4), (![s.val, j.val, 0, 0] : Fin 4 → ℕ) a + S1x1x512x512.size a ≤ S4x2x512x512.size a := by
  decide
/-- The rectangle of slot `(s, j)`. -/
abbrev slotR (s : Fin 4) (j : Fin 2) : Rect S4x2x512x512 :=
  Rect.unit (s := S4x2x512x512) ![s.val, j.val, 0, 0] S1x1x512x512.size (slot_inb s j)
/-- Slot `(s, j)` of direction `b`'s exchange buffer, a 512 × 512 block. -/
abbrev slotM (b : Bool) (s : Fin 4) (j : Fin 2) : Memref sig .tc .vmem S512x512 .bf16 :=
  ((commM b).slice (slotR s j) (fun _ => rfl)).squeeze S512x512 squeezes_S1x1x512x512_S512x512

/-- The slot a transfer leaves from. -/
abbrev fromM (k : Xf) : Memref sig .tc .vmem S512x512 .bf16 := slotM k.1 k.2.1.castSucc k.2.2
/-- The slot a transfer lands in. -/
abbrev intoM (k : Xf) : Memref sig .tc .vmem S512x512 .bf16 := slotM k.1 k.2.1.succ k.2.2

/-! ## The semaphores -/

@[reducible] def sendA : Bool → DmaSems sig S3x2
  | true => cc0_scratch3
  | false => cc0_scratch5
@[reducible] def recvA : Bool → DmaSems sig S3x2
  | true => cc0_scratch4
  | false => cc0_scratch6

theorem sem_inb : ∀ (h : Fin 3) (j : Fin 2) (a : Fin 2), (![h.val, j.val] : Fin 2 → ℕ) a + S1x1.size a ≤ S3x2.size a := by decide
/-- Semaphore `(h, j)` of an array. -/
abbrev semAt (A : DmaSems sig S3x2) (h : Fin 3) (j : Fin 2) : DmaSem sig :=
  ((A.slice (Rect.unit (s := S3x2) ![h.val, j.val] S1x1.size (sem_inb h j))).squeeze S_ squeezes_S1x1_S_).sem
/-- The semaphore that says a transfer has left, -/
abbrev sendQ (k : Xf) : DmaSem sig := semAt (sendA k.1) k.2.1 k.2.2
/-- and the one that says it has landed. -/
abbrev recvQ (k : Xf) : DmaSem sig := semAt (recvA k.1) k.2.1 k.2.2
/-- The barrier semaphore of the launch. -/
abbrev barS : Sem sig := (SemArray.scalar (sig.barrier 0 rfl) : Sems sig S_).sem

/-- The cells of one device: the barrier's, and per transfer the departure's (`true`) and the arrival's (`false`). -/
abbrev Ci : Type := Unit ⊕ (Bool × Xf)
/-- The transfer semaphores. -/
def osem : Bool × Xf → SemLoc sig
  | (true, k) => .dma (sendQ k)
  | (false, k) => .dma (recvQ k)
/-- All semaphores the kernel signals or waits on by hand. -/
def csem : Ci → SemLoc sig
  | .inl _ => .reg barS
  | .inr i => osem i

/-- The number of each transfer semaphore. -/
theorem osem_val : ∀ i : Bool × Xf, osem i = .dma ⟨3 + (if i.2.1 then 0 else 12) + (if i.1 then 0 else 6) + 2 * i.2.2.1.val + i.2.2.2.val, by
    have h1 := i.2.2.1.isLt; have h2 := i.2.2.2.isLt
    show _ < 27
    split <;> split <;> omega⟩ := by decide

/-- Which of the cells' semaphores a semaphore is. -/
def dec : SemLoc sig → Option Ci
  | .reg _ => some (.inl ())
  | .dma q =>
    if 3 ≤ q.val ∧ q.val < 27 then
      some (.inr (decide ((q.val - 3) % 12 < 6), decide (q.val - 3 < 12), ⟨(q.val - 3) % 6 / 2, by omega⟩, ⟨(q.val - 3) % 2, by omega⟩))
    else none

theorem dec_csem : ∀ i : Ci, dec (csem i) = some i := by decide

theorem csem_injective : Function.Injective csem := fun i i' h => by
  have := congrArg dec h
  rw [dec_csem, dec_csem] at this
  exact Option.some.inj this

abbrev barCell (c : Dev nD) : GSem nD τ sig := ((c : Thread nD τ), .reg barS)
abbrev sendCell (c : Dev nD) (k : Xf) : GSem nD τ sig := ((c : Thread nD τ), .dma (sendQ k))
abbrev recvCell (c : Dev nD) (k : Xf) : GSem nD τ sig := ((c : Thread nD τ), .dma (recvQ k))
/-- Cell `i` of device `c`. -/
abbrev kcell (ci : Dev nD × Ci) : GSem nD τ sig := ((ci.1 : Thread nD τ), csem ci.2)

/-- The credit of one block. -/
abbrev N : ℕ := (slotM true 0 0).view.dmaCredit
theorem N_pos : 0 < N := View.dmaCredit_pos _ (by decide)
theorem credit_into (k : Xf) : (intoM k).view.dmaCredit = N := by
  obtain ⟨b, h, j⟩ := k; cases b <;> rfl

/-! ## The values -/

theorem rows_inb : ∀ (d : Dev nD) (a : Fin 2), (![512 * d.val, 0] : Fin 2 → ℕ) a + S512x512.size a ≤ S2048x512.size a := by decide
/-- The 512 rows of `X` that belong to device `d`'s part of the result. -/
def xblk (X : FVec F S2048x512 .bf16) (d : Dev nD) : FVec F S512x512 .bf16 :=
  bM.view.readAt (Elt F) (Rect.unit (s := S2048x512) ![512 * d.val, 0] S512x512.size (rows_inb d)).toLoadRect X

/-- The first of the 512 columns that direction `b`'s half `j` works on. -/
def colOff : Bool → Fin 2 → ℕ
  | true, 0 => 0
  | true, 1 => 512
  | false, 0 => 1024
  | false, 1 => 1536
theorem col_slices : ∀ (b : Bool) (j : Fin 2), S512x2048.Slices ![0, colOff b j] S512x512 := by decide
/-- These columns of `W`. -/
def wcol (W : FVec F S512x2048 .bf16) (b : Bool) (j : Fin 2) : FVec F S512x512 .bf16 :=
  extractStridedSlice S512x512 ![0, colOff b j] W (col_slices b j)

/-- The product of a device's rows for device `d` with these columns. -/
def prod (X : FVec F S2048x512 .bf16) (W : FVec F S512x2048 .bf16) (b : Bool) (j : Fin 2) (d : Dev nD) : FVec F S512x512 .f32 :=
  matmul dot_S512x512_S512x512_S512x512_1_0_0_1_n_n none (xblk X d) (wcol W b j) (constant S512x512 .f32 0x00000000#32)
/-- The same in the exchange buffers' width. -/
def prodB (X : FVec F S2048x512 .bf16) (W : FVec F S512x2048 .bf16) (b : Bool) (j : Fin 2) (d : Dev nD) : FVec F S512x512 .bf16 :=
  truncf .bf16 (prod X W b j d) bitsLt_bf16_f32

/-- The device whose rows device `c` multiplies for stage `n` of direction `b`: the one that stands `3 - n` steps
    further that way. -/
def dest : Bool → Fin 4 → Dev nD → Dev nD
  | true, n, c => ⟨(c.val + (7 - n.val)) % 4, Nat.mod_lt _ (by decide)⟩
  | false, n, c => ⟨(c.val + (1 + n.val)) % 4, Nat.mod_lt _ (by decide)⟩

/-- What device `c` sends at hop `h`: its own product at hop 0; later what came in plus its own product. -/
def sent (X : Dev nD → FVec F S2048x512 .bf16) (W : Dev nD → FVec F S512x2048 .bf16) (b : Bool) (j : Fin 2) (c : Dev nD) : Fin 3 → FVec F S512x512 .bf16
  | 0 => prodB (X c) (W c) b j (dest b 0 c)
  | 1 => addf (prodB (X (src b c)) (W (src b c)) b j (dest b 0 (src b c))) (prodB (X c) (W c) b j (dest b 1 c))
  | 2 => addf (addf (prodB (X (src b (src b c))) (W (src b (src b c))) b j (dest b 0 (src b (src b c))))
      (prodB (X (src b c)) (W (src b c)) b j (dest b 1 (src b c)))) (prodB (X c) (W c) b j (dest b 2 c))

/-- A block of the result on device `c`: what came in last plus its own product. -/
def tile (X : Dev nD → FVec F S2048x512 .bf16) (W : Dev nD → FVec F S512x2048 .bf16) (b : Bool) (j : Fin 2) (c : Dev nD) : FVec F S512x512 .f32 :=
  addf (extf .f32 (sent X W b j (src b c) 2) bitsLt_bf16_f32) (prod (X c) (W c) b j (dest b 3 c))

end Cert.AllToAllSum

end
-- ==== Proof.Schedule.lean ====
/-
# Who owes what to whom

Every semaphore of the kernel is used once: the barrier of a device is signalled once by either neighbour, every
departure semaphore and every arrival semaphore receives one block's credit. Below stand what each of these events
hands over, what every device owes at launch, and the levels that order the waits.
-/
module

public import proofs.«01_k».proof.Proof.Names

@[expose] public section

noncomputable section

namespace Cert.AllToAllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## What is handed over -/

/-- Device `c` holds a slot, with contents `V`. -/
def slot (c : Dev nD) (b : Bool) (s : Fin 4) (j : Fin 2) (V : FVec F S512x512 .bf16) : sProp 𝕄 :=
  owns (c : Thread nD τ) (slotM b s j) fullShare V
/-- Device `c` holds a slot, with some contents. -/
def slotAny (c : Dev nD) (b : Bool) (s : Fin 4) (j : Fin 2) : sProp 𝕄 := iprop(∃ V, slot (F := F) c b s j V)

instance slot_storable (c : Dev nD) (b : Bool) (s : Fin 4) (j : Fin 2) (V : FVec F S512x512 .bf16) :
    BI.Storable (upEmb : UEmb _ 𝕄) (slot (F := F) c b s j V) := by unfold slot; infer_instance
instance slotAny_storable (c : Dev nD) (b : Bool) (s : Fin 4) (j : Fin 2) :
    BI.Storable (upEmb : UEmb _ 𝕄) (slotAny (F := F) c b s j) := by unfold slotAny; infer_instance

/-- The signal for direction `b` to device `c`'s barrier comes from the neighbour `c` sends to in that direction; it
    hands over the slots `c`'s transfers land in. -/
def barPay (c : Dev nD) (b : Bool) : sProp 𝕄 :=
  iprop((slotAny (F := F) (tgt b c) b 1 0 ∗ slotAny (F := F) (tgt b c) b 1 1) ∗ (slotAny (F := F) (tgt b c) b 2 0 ∗ slotAny (F := F) (tgt b c) b 2 1)
    ∗ (slotAny (F := F) (tgt b c) b 3 0 ∗ slotAny (F := F) (tgt b c) b 3 1))

instance barPay_storable (c : Dev nD) (b : Bool) : BI.Storable (upEmb : UEmb _ 𝕄) (barPay (F := F) c b) := by unfold barPay; infer_instance

variable (X : Dev nD → FVec F S2048x512 .bf16) (W : Dev nD → FVec F S512x2048 .bf16)

/-- A departure gives the sender its slot back. -/
def sendPay (c : Dev nD) (k : Xf) : sProp 𝕄 := slot c k.1 k.2.1.castSucc k.2.2 (sent X W k.1 k.2.2 c k.2.1)
/-- An arrival gives the receiver its slot with what the sender sent. -/
def recvPay (c : Dev nD) (k : Xf) : sProp 𝕄 := slot c k.1 k.2.1.succ k.2.2 (sent X W k.1 k.2.2 (src k.1 c) k.2.1)

instance sendPay_storable (c : Dev nD) (k : Xf) : BI.Storable (upEmb : UEmb _ 𝕄) (sendPay X W c k) := by unfold sendPay; infer_instance
instance recvPay_storable (c : Dev nD) (k : Xf) : BI.Storable (upEmb : UEmb _ 𝕄) (recvPay X W c k) := by unfold recvPay; infer_instance

/-! ## The schedule -/

/-- The duties of a cell, by what its semaphore is for: a barrier has one per direction, a transfer semaphore has one. -/
def dutiesOf : Option Ci → Finset Bool
  | none => ∅
  | some (.inl _) => Finset.univ
  | some (.inr _) => {false}
def amountOf' : Option Ci → ℕ
  | some (.inl _) => 1
  | _ => N
def payOf (c : Dev nD) (d : Bool) : Option Ci → sProp 𝕄
  | some (.inl _) => barPay c d
  | some (.inr (true, k)) => sendPay X W c k
  | some (.inr (false, k)) => recvPay X W c k
  | none => iprop(emp)

/-- The schedule: one round, round 0. -/
def sched : Rounds.Schedule (GSem nD τ sig) Bool 𝕄 where
  duties g r := if r = 0 ∧ g.1.2 = .tc then dutiesOf (dec g.2) else ∅
  unitless _ := False
  amount g _ _ := amountOf' (dec g.2)
  payload g _ d := payOf X W g.1.1 d (dec g.2)
  amount_pos g _ _ _ := by
    unfold amountOf'; split
    · exact Nat.one_pos
    · exact N_pos

instance sched_payload_storable (g : GSem nD τ sig) (r : ℕ) (d : Bool) :
    BI.Storable (upEmb : UEmb _ 𝕄) ((sched X W).payload g r d) := by
  show BI.Storable upEmb (payOf X W g.1.1 d (dec g.2))
  unfold payOf; split <;> infer_instance

theorem duties_at (c : Dev nD) (i : Ci) : (sched X W).duties (kcell (c, i)) 0 = dutiesOf (some i) := by
  dsimp only [sched]
  rw [if_pos ⟨rfl, rfl⟩, dec_csem]
theorem duties_later (g : GSem nD τ sig) : ∀ r, 1 ≤ r → (sched X W).duties g r = ∅ :=
  fun r hr => if_neg fun h => by have := h.1; omega
theorem amount_at (c : Dev nD) (i : Ci) (d : Bool) : (sched X W).amount (kcell (c, i)) 0 d = amountOf' (some i) := by
  show amountOf' (dec (csem i)) = _
  rw [dec_csem]
theorem payload_at (c : Dev nD) (i : Ci) (d : Bool) : (sched X W).payload (kcell (c, i)) 0 d = payOf X W c d (some i) := by
  show payOf X W c d (dec (csem i)) = _
  rw [dec_csem]

section At
variable (c : Dev nD) (k : Xf)

theorem duties_bar : (sched X W).duties (barCell c) 0 = Finset.univ := duties_at X W c (.inl ())
theorem duties_send : (sched X W).duties (sendCell c k) 0 = {false} := duties_at X W c (.inr (true, k))
theorem duties_recv : (sched X W).duties (recvCell c k) 0 = {false} := duties_at X W c (.inr (false, k))
theorem amount_bar (d : Bool) : (sched X W).amount (barCell c) 0 d = 1 := amount_at X W c (.inl ()) d
theorem amount_send (d : Bool) : (sched X W).amount (sendCell c k) 0 d = N := amount_at X W c (.inr (true, k)) d
theorem amount_recv (d : Bool) : (sched X W).amount (recvCell c k) 0 d = N := amount_at X W c (.inr (false, k)) d
theorem payload_bar (d : Bool) : (sched X W).payload (barCell c) 0 d = barPay c d := payload_at X W c (.inl ()) d
theorem payload_send (d : Bool) : (sched X W).payload (sendCell c k) 0 d = sendPay X W c k := payload_at X W c (.inr (true, k)) d
theorem payload_recv (d : Bool) : (sched X W).payload (recvCell c k) 0 d = recvPay X W c k := payload_at X W c (.inr (false, k)) d

theorem expect_bar : (sched X W).expect (barCell c) 0 = 2 := by
  unfold Schedule.expect Schedule.amountOf
  rw [duties_bar, Finset.sum_congr rfl fun d _ => amount_bar X W c d]; rfl
theorem expect_send : (sched X W).expect (sendCell c k) 0 = N := by
  unfold Schedule.expect Schedule.amountOf; rw [duties_send, Finset.sum_singleton, amount_send]
theorem expect_recv : (sched X W).expect (recvCell c k) 0 = N := by
  unfold Schedule.expect Schedule.amountOf; rw [duties_recv, Finset.sum_singleton, amount_recv]

theorem rest_bar : bigSep ((sched X W).duties (barCell c) 0 \ ∅) (fun d => (sched X W).payload (barCell c) 0 d)
    = iprop(barPay c true ∗ barPay c false) := by
  rw [Finset.sdiff_empty, duties_bar, bigSep_univ_eq_bigSepL [true, false] (by decide) (by decide), bigSepL_cons_cons, bigSepL_singleton,
    payload_bar, payload_bar]
  rfl
theorem rest_send : bigSep ((sched X W).duties (sendCell c k) 0 \ ∅) (fun d => (sched X W).payload (sendCell c k) 0 d) = sendPay X W c k := by
  rw [Finset.sdiff_empty, duties_send, bigSep_singleton, payload_send]
theorem rest_recv : bigSep ((sched X W).duties (recvCell c k) 0 \ ∅) (fun d => (sched X W).payload (recvCell c k) 0 d) = recvPay X W c k := by
  rw [Finset.sdiff_empty, duties_recv, bigSep_singleton, payload_recv]

end At

/-! ## Debts and levels -/

/-- What device `c` owes while the transfers of `l` are still to be started, the next one first. -/
def debt (c : Dev nD) : List Xf → CellTallies nD τ sig Unit
  | [] => 0
  | k :: l => debt c l + tallyAt (recvCell (tgt k.1 c) k) () N

/-- All transfers of a device, in the order in which the kernel starts them. -/
def allSends : List Xf :=
  [(true, 0, 0), (false, 0, 0), (true, 0, 1), (false, 0, 1), (true, 1, 0), (false, 1, 0), (true, 1, 1), (false, 1, 1),
    (true, 2, 0), (false, 2, 0), (true, 2, 1), (false, 2, 1)]

/-- Before its second signal a device owes the transfers and one unit to its right neighbour's barrier, -/
def O₁ (c : Dev nD) : CellTallies nD τ sig Unit := debt c allSends + tallyAt (barCell (src false c)) () 1
/-- at launch one unit more, to its left neighbour's. -/
def O₀ (c : Dev nD) : CellTallies nD τ sig Unit := O₁ c + tallyAt (barCell (src true c)) () 1

theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

theorem debt_pos {c : Dev nD} {g : GSem nD τ sig} {u : Unit} : ∀ {l : List Xf}, 0 < debt c l g u → ∃ k ∈ l, g = recvCell (tgt k.1 c) k
  | [], h => absurd h (Nat.lt_irrefl 0)
  | k :: l, h => by
    unfold debt at h
    rw [Pi.add_apply, Finsupp.add_apply] at h
    rcases Nat.eq_zero_or_pos (debt c l g u) with h0 | h0
    · rw [h0, Nat.zero_add] at h
      exact ⟨k, List.mem_cons_self, tally_pos h⟩
    · obtain ⟨k', hk, hg⟩ := debt_pos h0
      exact ⟨k', List.mem_cons_of_mem _ hk, hg⟩

theorem O₀_pos {c : Dev nD} {g : GSem nD τ sig} {u : Unit} (h : 0 < O₀ c g u) :
    (∃ k, g = recvCell (tgt k.1 c) k) ∨ ∃ d, g = barCell d := by
  unfold O₀ O₁ at h
  rw [Pi.add_apply, Finsupp.add_apply, Pi.add_apply, Finsupp.add_apply] at h
  rcases Nat.eq_zero_or_pos ((tallyAt (barCell (src true c)) () 1 : CellTallies nD τ sig Unit) g u) with h1 | h1
  · rcases Nat.eq_zero_or_pos ((tallyAt (barCell (src false c)) () 1 : CellTallies nD τ sig Unit) g u) with h2 | h2
    · obtain ⟨k, -, hk⟩ := debt_pos (show 0 < debt c allSends g u by omega)
      exact .inl ⟨k, hk⟩
    · exact .inr ⟨_, tally_pos h2⟩
  · exact .inr ⟨_, tally_pos h1⟩

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a semaphore: barriers at 1, the arrivals of hop `h` at `2 + h`, all others at 0. -/
def lvOf : Option Ci → ℕ
  | some (.inl _) => 1
  | some (.inr (false, k)) => 2 + k.2.1.val
  | _ => 0
def lv (g : GSem nD τ sig) (_ : Unit) : ℕ := lvOf (dec g.2)

theorem lv_bar (c : Dev nD) (u : Unit) : lv (barCell c) u = 1 := congrArg lvOf (dec_csem (.inl ()))
theorem lv_recv (c : Dev nD) (k : Xf) (u : Unit) : lv (recvCell c k) u = 2 + k.2.1.val := congrArg lvOf (dec_csem (.inr (false, k)))

/-- A device may wait on one of its own semaphores when all it owes lies on higher levels. -/
theorem mayWait_of (c : Dev nD) (sm : SemLoc sig) (O : CellTallies nD τ sig Unit)
    (h : ∀ g u, 0 < O g u → g.1.2 = .tc ∧ lvOf (dec sm) < lv g u) : (levAts L lv : sProp 𝕄) ⊢ MayWait (c : Thread nD τ) sm () O :=
  MayOwe.of_cut (L := L) (lev := lv) (lvOf (dec sm)) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

/-- While it owes transfers only, a device may wait at its barrier; -/
theorem mayWait_bar (c : Dev nD) (l : List Xf) : (levAts L lv : sProp 𝕄) ⊢ MayWait (c : Thread nD τ) (.reg barS) () (debt c l) :=
  mayWait_of c _ _ fun g u hg => by
    obtain ⟨k, -, rfl⟩ := debt_pos hg
    exact ⟨rfl, by rw [lv_recv]; show 1 < _; omega⟩

/-- while it owes transfers of later hops only, for an arrival. -/
theorem mayWait_recv (c : Dev nD) (k : Xf) (l : List Xf) (hl : ∀ k' ∈ l, k.2.1.val < k'.2.1.val) :
    (levAts L lv : sProp 𝕄) ⊢ MayWait (c : Thread nD τ) (.dma (recvQ k)) () (debt c l) :=
  mayWait_of c _ _ fun g u hg => by
    obtain ⟨k', hk, rfl⟩ := debt_pos hg
    refine ⟨rfl, ?_⟩
    rw [lv_recv, show lvOf (dec (SemLoc.dma (recvQ k))) = 2 + k.2.1.val from congrArg lvOf (dec_csem (.inr (false, k)))]
    have := hl k' hk
    omega

/-- On a semaphore of the input and output windows it may wait with all its debts, or with none. -/
theorem mayWait_stage (c : Dev nD) (q : DmaSem sig) (hq : lvOf (dec (SemLoc.dma q)) = 0) (O : CellTallies nD τ sig Unit) (hO : O = O₀ c ∨ O = 0) :
    (levAts L lv : sProp 𝕄) ⊢ MayWait (c : Thread nD τ) (.dma q) () O :=
  mayWait_of c _ _ fun g u hg => by
    rcases hO with rfl | rfl
    · rw [hq]
      rcases O₀_pos hg with ⟨k, rfl⟩ | ⟨d, rfl⟩
      · exact ⟨rfl, by rw [lv_recv]; omega⟩
      · exact ⟨rfl, by rw [lv_bar]; omega⟩
    · exact absurd hg (Nat.lt_irrefl 0)

end Cert.AllToAllSum

end
-- ==== Proof.Steps.lean ====
/-
# One effect at a time

What each load, store, transfer and wait of the kernel does to the slots, the debts and the semaphores, stated once for
any transfer.
-/
module

public import proofs.«01_k».proof.Proof.Schedule
public import Idealize.ShloMosaic.Lib.Pipeline.Value

@[expose] public section

noncomputable section

namespace Cert.AllToAllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of device `c` runs and ends in `Q`. -/
abbrev Runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`. -/
def ow (c : Dev nD) (O : CellTallies nD τ sig Unit) : sProp 𝕄 := iprop(∃ V, owes (Val := Elt F) (Name := ℕ) (U := UU) (Lvl := ℕ) (c : Thread nD τ) O V)

/-! ## Loads and stores -/

section Slots
variable (c : Dev nD) (b : Bool) (s : Fin 4) (j : Fin 2)

abbrev toBlock : S1x1x512x512.ShapeCasts S512x512 := shapeCasts_S1x1x512x512_S512x512
abbrev toSlot : S512x512.ShapeCasts S1x1x512x512 := shapeCasts_S512x512_S1x1x512x512

/-- A slot's elements are those of its rectangle. -/
theorem slot_set : (slotM b s j).view.set = (commM b).view.setOn (slotR s j).set :=
  (View.set_reshape _ _).trans (View.set_slice _ _)

/-- Loading a slot gives its contents, up to the two unit axes. -/
theorem wp_slot_load {α : Type} {Q : α → sProp 𝕄} (V : FVec F S512x512 .bf16) {hl : (commM b).view.LoadsAt (slotR s j).toLoadRect}
    {k : (S1x1x512x512.Idx → Elt F .bf16) → Prog (TpuEff nD τ sig (Elt F) Λ₀ .tc) α} :
    slot c b s j V
      ⊢ iprop((slot c b s j V -∗ Runs c (k (shapeCast S1x1x512x512 V toSlot)) Q)
          -∗ Runs c (.op (.load (commM b) (slotR s j).toLoadRect hl) k) Q) := by
  unfold slot owns
  iintro ⟨%f, %hf, Hp⟩ Hk
  have hv : (commM b).view.readAt (Elt F) (slotR s j).toLoadRect f = shapeCast S1x1x512x512 V toSlot := by
    rw [← hf]
    exact (shapeCast_shapeCast ((commM b).view.readAt (Elt F) (slotR s j).toLoadRect f) toBlock toSlot).symm
  rw [← hv]
  iapply (wp_load 𝒱₀ (c : Thread nD τ) none Set.univ (m := commM b) (r := (slotR s j).toLoadRect) (f := f)
    (S := (slotM b s j).view.set) (q := fullShare) (by rw [slot_set])) $$ Hp
  iintro Hp
  iapply Hk
  iexists f
  isplitr; · ipureintro; exact hf
  iexact Hp

/-- Storing to a slot replaces its contents. -/
theorem wp_slot_store {α : Type} {Q : α → sProp 𝕄} (V : FVec F S512x512 .bf16) {hx : ((commM b).access (slotR s j)).Stores Finset.univ}
    {hm : (Finset.univ : Finset (slotR s j).shape.Idx) = Finset.univ ∨ ∀ a, (slotR s j).stride a = 1}
    {k : PUnit → Prog (TpuEff nD τ sig (Elt F) Λ₀ .tc) α} :
    slotAny (F := F) c b s j
      ⊢ iprop((slot c b s j V -∗ Runs c (k ⟨⟩) Q)
          -∗ Runs c (.op (.store (commM b) (slotR s j) (shapeCast S1x1x512x512 V toSlot : S1x1x512x512.Idx → Elt F .bf16) Finset.univ hx hm) k) Q) := by
  unfold slotAny slot owns
  iintro ⟨%V', %f, %hf, Hp⟩ Hk
  iapply (wp_store 𝒱₀ (c : Thread nD τ) none Set.univ (m := commM b) (r := slotR s j) (f := f) (Mk := Finset.univ)
    (S := (slotM b s j).view.set) (by rw [slot_set, View.setOn_univ, View.set_slice]; exact subset_rfl)) $$ Hp
  iintro Hp
  iapply Hk
  iexists _
  isplitr
  rotate_left
  · iexact Hp
  ipureintro
  refine Eq.trans ?_ (shapeCast_shapeCast V toSlot toBlock)
  show shapeCast S512x512 (((commM b).access (slotR s j)).read (Elt F) (((commM b).access (slotR s j)).write (Elt F) f _ Finset.univ)) toBlock = _
  rw [View.read_write_univ]

end Slots

section Rows
variable (c : Dev nD)

/-- The converted copy of the left factor, held whole. -/
def xbuf (c : Dev nD) (X : FVec F S2048x512 .bf16) : sProp 𝕄 :=
  bM.view.loc (c : Thread nD τ) ↦{fullShare} (X : Buf (Elt F) (bM.view.loc (c : Thread nD τ)))

/-- Loading a device's rows of it. -/
theorem wp_rows {α : Type} {Q : α → sProp 𝕄} (X : FVec F S2048x512 .bf16) (d : Dev nD) {off : Fin 2 → ℕ} (hoff : off = ![512 * d.val, 0])
    {inb : ∀ a, off a + S512x512.size a ≤ S2048x512.size a}
    {hl : bM.view.LoadsAt (Rect.unit (s := S2048x512) off S512x512.size inb).toLoadRect}
    {k : (S512x512.Idx → Elt F .bf16) → Prog (TpuEff nD τ sig (Elt F) Λ₀ .tc) α} :
    xbuf c X
      ⊢ iprop((xbuf c X -∗ Runs c (k (xblk X d)) Q)
          -∗ Runs c (.op (.load bM (Rect.unit (s := S2048x512) off S512x512.size inb).toLoadRect hl) k) Q) := by
  subst hoff
  unfold xbuf
  exact wp_load 𝒱₀ (c : Thread nD τ) none Set.univ (m := bM) (Finset.subset_univ _)

/-- Where the rows of each stage start. -/
theorem off1_eq : k0_off1 c = ![512 * (dest true 0 c).val, 0] := by
  rw [k0_off1_eq]; exact congrArg (fun n => ![512 * n, 0]) (show (c.val + 3) % 4 = (c.val + 7) % 4 by omega)
theorem off2_eq : k0_off2 c = ![512 * (dest false 0 c).val, 0] := by
  rw [k0_off2_eq]; rfl
theorem off3_eq (r : Fin 3) : k0_off3 c (BitVec.ofNat 32 r.val) = ![512 * (dest true r.succ c).val, 0] := by
  have hr := r.isLt
  rw [k0_off3_eq]; exact congrArg (fun n => ![512 * n, 0]) (show (c.val + 6 - r.val) % 4 = (c.val + (7 - (r.val + 1))) % 4 by congr 1; omega)
theorem off4_eq (r : Fin 3) : k0_off4 c (BitVec.ofNat 32 r.val) = ![512 * (dest false r.succ c).val, 0] := by
  rw [k0_off4_eq]; exact congrArg (fun n => ![512 * n, 0]) (show (c.val + r.val + 2) % 4 = (c.val + (1 + (r.val + 1))) % 4 by congr 1; omega)

end Rows

/-! ## Transfers -/

variable (X : Dev nD → FVec F S2048x512 .bf16) (W : Dev nD → FVec F S512x2048 .bf16) (K : Dev nD × Ci → ℕ)

/-- Every semaphore's invariant, and that its round has been reached. -/
def records : sProp 𝕄 :=
  iprop((bigSep Finset.univ fun ci : Dev nD × Ci => cellInv ER (sched X W) (K ci) (kcell ci))
    ∗ bigSep Finset.univ fun ci : Dev nD × Ci => reached ER (kcell ci) 0)

instance records_persistent : BI.Persistent (records X W K) := by unfold records; infer_instance

theorem inv_at (ci : Dev nD × Ci) : records X W K ⊢ cellInv ER (sched X W) (K ci) (kcell ci) := by
  have h : (bigSep Finset.univ fun ci : Dev nD × Ci => (cellInv ER (sched X W) (K ci) (kcell ci) : sProp 𝕄)) ⊢ cellInv ER (sched X W) (K ci) (kcell ci) :=
    bigSep_elim (Finset.mem_univ ci)
  unfold records; iintro ⟨H, -⟩
  iapply h; iexact H
theorem reached_at (ci : Dev nD × Ci) : records X W K ⊢ reached ER (kcell ci) 0 := by
  have h : (bigSep Finset.univ fun ci : Dev nD × Ci => (reached ER (kcell ci) 0 : sProp 𝕄)) ⊢ reached ER (kcell ci) 0 :=
    bigSep_elim (Finset.mem_univ ci)
  unfold records; iintro ⟨-, H⟩
  iapply h; iexact H

/-- Right to start a transfer: the tokens of its departure and of its arrival, and the departure semaphore unused; -/
def rights (c : Dev nD) (k : Xf) : sProp 𝕄 :=
  iprop(dutyTok ER (sendCell c k) 0 false ∗ dutyTok ER (recvCell (tgt k.1 c) k) 0 false ∗ atPos ER (sendCell c k) 0 ∅ 0)
/-- with it, the slot it lands in. -/
def ready (c : Dev nD) (k : Xf) : sProp 𝕄 := iprop(rights c k ∗ slotAny (F := F) (tgt k.1 c) k.1 k.2.1.succ k.2.2)
/-- Right to wait for a transfer's departure, -/
def away (c : Dev nD) (k : Xf) : sProp 𝕄 := iprop(cred (tallyAt (sendCell c k) () N) ∗ atPos ER (sendCell c k) 0 ∅ 0)
/-- and for an arrival. -/
def due (c : Dev nD) (k : Xf) : sProp 𝕄 := iprop(cred (tallyAt (recvCell c k) () N) ∗ atPos ER (recvCell c k) 0 ∅ 0)

section Xfer
variable (c : Dev nD) (k : Xf)

/-- A transfer in terms of the buffers' elements. -/
theorem wp_depart_raw {α : Type} {Q : α → sProp 𝕄} (ls : List Xf)
    {hsc : (intoM k).view.ref.isScScratch = false} {hsrc : (fromM k).view.WordExact} {hdst : (intoM k).view.WordExact}
    {hsem : DmaTarget.Typed .vmem (.dma (recvQ k)) (.remote (Dev.tc (tgt k.1 c) : Thread nD τ) (intoM k) (.dma (sendQ k)) hsc)}
    {p : PUnit → Prog (TpuEff nD τ sig (Elt F) Λ₀ .tc) α} (fs : Buf (Elt F) ((fromM k).view.loc (c : Thread nD τ)))
    (fd : Buf (Elt F) ((intoM k).view.loc (tgt k.1 c : Thread nD τ))) (V : Waits sig Unit)
    (hfs : (fromM k).view.read (Elt F) fs = sent X W k.1 k.2.2 c k.2.1) :
    iprop(cellInv ER (sched X W) (K (c, .inr (true, k))) (sendCell c k)
        ∗ cellInv ER (sched X W) (K (tgt k.1 c, .inr (false, k))) (recvCell (tgt k.1 c) k)
        ∗ ((fromM k).view.loc (c : Thread nD τ) ↦[(fromM k).view.set]{fullShare} fs)
        ∗ ((intoM k).view.loc (tgt k.1 c : Thread nD τ) ↦[(intoM k).view.set]{fullShare} fd)
        ∗ owes (c : Thread nD τ) (debt c (k :: ls)) V
        ∗ dutyTok ER (sendCell c k) 0 false ∗ reached ER (sendCell c k) 0
        ∗ dutyTok ER (recvCell (tgt k.1 c) k) 0 false ∗ reached ER (recvCell (tgt k.1 c) k) 0)
      ⊢ iprop(((cred (tallyAt (sendCell c k) () N) ∗ owes (c : Thread nD τ) (debt c ls) V) -∗ Runs c (p ⟨⟩) Q)
          -∗ Runs c (.op (.enqueueDma (fromM k) (.remote (Dev.tc (tgt k.1 c) : Thread nD τ) (intoM k) (.dma (sendQ k)) hsc) (.dma (recvQ k)) hsrc hdst hsem) p) Q) :=
  Rounds.wp_send_pointsTo 𝒱₀ ER (sched X W) (c : Thread nD τ) none (κ₁ := K (c, .inr (true, k))) (κ₂ := K (tgt k.1 c, .inr (false, k)))
    (r₁ := 0) (r₂ := 0) (d₁ := false) (d₂ := false) (fs := fs) (fd := fd)
    (by rw [duties_send]; exact Finset.mem_singleton_self _) (by rw [duties_recv]; exact Finset.mem_singleton_self _)
    () () N (by exact credit_into k) (amount_send X W c k false) (amount_recv X W (tgt k.1 c) k false) (debt c ls) rfl (W := V)
    (by
      rw [payload_send]; unfold sendPay slot owns
      iintro H; iexists fs; isplitr; · ipureintro; exact hfs
      iexact H)
    (by
      rw [payload_recv]; unfold recvPay slot owns; rw [src_tgt]
      iintro H; iexists _; isplitr
      rotate_left
      · iexact H
      ipureintro; rw [View.read_write_univ]; exact hfs)

/-- Starting transfer `k`. -/
theorem wp_depart {α : Type} {Q : α → sProp 𝕄} (n : Dev nD) (hn : n = tgt k.1 c) (ls : List Xf)
    {hsc : (intoM k).view.ref.isScScratch = false} {hsrc : (fromM k).view.WordExact} {hdst : (intoM k).view.WordExact}
    {hsem : DmaTarget.Typed .vmem (.dma (recvQ k)) (.remote (Dev.tc n : Thread nD τ) (intoM k) (.dma (sendQ k)) hsc)}
    {p : PUnit → Prog (TpuEff nD τ sig (Elt F) Λ₀ .tc) α} :
    iprop(records X W K ∗ slot c k.1 k.2.1.castSucc k.2.2 (sent X W k.1 k.2.2 c k.2.1) ∗ ow c (debt c (k :: ls)) ∗ ready c k)
      ⊢ iprop(((ow c (debt c ls) ∗ away c k) -∗ Runs c (p ⟨⟩) Q)
          -∗ Runs c (.op (.enqueueDma (fromM k) (.remote (Dev.tc n : Thread nD τ) (intoM k) (.dma (sendQ k)) hsc) (.dma (recvQ k)) hsrc hdst hsem) p) Q) := by
  subst hn
  unfold ready rights away ow slotAny slot owns
  iintro ⟨#Hrec, ⟨%fs, %hfs, Hs⟩, ⟨%V, Ho⟩, ⟨Ht1, Ht2, Hat⟩, ⟨%V', %fd, -, Hd⟩⟩ Hk
  iapply (wp_depart_raw X W K c k ls fs fd V hfs) $$ [Hs Hd Ho Ht1 Ht2]
  · isplitr; · iapply (inv_at X W K (c, .inr (true, k))); iexact Hrec
    isplitr; · iapply (inv_at X W K (tgt k.1 c, .inr (false, k))); iexact Hrec
    isplitl [Hs]; · iexact Hs
    isplitl [Hd]; · iexact Hd
    isplitl [Ho]; · iexact Ho
    isplitl [Ht1]; · iexact Ht1
    isplitr; · iapply (reached_at X W K (c, .inr (true, k))); iexact Hrec
    isplitl [Ht2]; · iexact Ht2
    iapply (reached_at X W K (tgt k.1 c, .inr (false, k))); iexact Hrec
  iintro ⟨Hc, Ho⟩
  iapply Hk
  isplitl [Ho]; · iexists V; iexact Ho
  isplitl [Hc] <;> iassumption

/-- Waiting on the own cell `i`, which nothing is owed below: the cell is done with, and what was handed over is there. -/
theorem wp_wait_cell {α : Type} {Q : α → sProp 𝕄} (i : Ci) (n : ℕ) {w : TpuEff nD τ sig (Elt F) Λ₀ .tc PUnit} {p : PUnit → Prog (TpuEff nD τ sig (Elt F) Λ₀ .tc) α}
    (hw : ∀ R : PUnit → sProp 𝕄, wpE (defs₀ (F := F)) 𝒱₀ (c : Thread nD τ) none Set.univ w R = waitSpec (c : Thread nD τ) Set.univ (csem i) n R)
    (hn : n = (sched X W).expect (kcell (c, i)) 0) (O : CellTallies nD τ sig Unit) (P : sProp 𝕄)
    (hP : bigSep ((sched X W).duties (kcell (c, i)) 0 \ ∅) (fun d => (sched X W).payload (kcell (c, i)) 0 d) = P)
    (hM : (levAts L lv : sProp 𝕄) ⊢ MayWait (c : Thread nD τ) (csem i) () O) :
    iprop(records X W K ∗ levAts L lv ∗ ow c O ∗ cred (tallyAt (kcell (c, i)) () n) ∗ atPos ER (kcell (c, i)) 0 ∅ 0)
      ⊢ iprop(((ow c O ∗ P ∗ semVal (kcell (c, i)) 0) -∗ Runs c (p ⟨⟩) Q) -∗ Runs c (.op w p) Q) := by
  subst hP
  unfold ow
  iintro ⟨#Hrec, #Hlev, ⟨%V, Ho⟩, Hc, Hat⟩ Hk
  iapply (Rounds.wp_wait_rest_token 𝒱₀ ER (sched X W) (c : Thread nD τ) none (κ := K (c, i)) hw (Set.mem_univ _) () (O := O) (W := V)
      (R := 0) (m := 0) (T := ∅) (by rw [Nat.zero_add]; exact hn)) $$ [Hc Ho Hat]
  · isplitr; · iapply (inv_at X W K (c, i)); iexact Hrec
    isplitl [Hc]; · iexact Hc
    isplitl [Ho]; · iexact Ho
    isplitr; · iapply hM; iexact Hlev
    iexact Hat
  iintro ⟨Ho, Hat, -, Hpay⟩
  imod (Rounds.cell_close ER (sched X W) (Set.mem_univ (K (c, i))) (fun h => h) (R := 0 + 1) (duties_later X W (kcell (c, i)))) $$ [Hat] with Hz
  · isplitr; · iapply (inv_at X W K (c, i)); iexact Hrec
    iexact Hat
  iapply Hk
  isplitl [Ho]; · iexists _; iexact Ho
  isplitl [Hpay] <;> iassumption

/-- Waiting for an arrival while only transfers of later hops are still to be started. -/
theorem wp_arrive {α : Type} {Q : α → sProp 𝕄} (ls : List Xf) (hl : ∀ k' ∈ ls, k.2.1.val < k'.2.1.val)
    {s' : Shape} {e' : EltTy} {m₁ : Memref sig .tc .vmem s' e'} {h₁ : m₁.view.WordExact} {h₂ : (intoM k).view.WordExact}
    {p : PUnit → Prog (TpuEff nD τ sig (Elt F) Λ₀ .tc) α} :
    iprop(records X W K ∗ levAts L lv ∗ ow c (debt c ls) ∗ due c k)
      ⊢ iprop(((ow c (debt c ls) ∗ slot c k.1 k.2.1.succ k.2.2 (sent X W k.1 k.2.2 (src k.1 c) k.2.1) ∗ semVal (recvCell c k) 0) -∗ Runs c (p ⟨⟩) Q)
          -∗ Runs c (.op (.waitDma2 (recvQ k) m₁ (intoM k) h₁ h₂) p) Q) :=
  wp_wait_cell X W K c (.inr (false, k)) N (fun R => by rw [wpE_waitDma2_eq, credit_into]; rfl) (expect_recv X W c k).symm _ (recvPay X W c k)
    (rest_recv X W c k) (mayWait_recv c k ls hl)

theorem credit_from : (fromM k).view.dmaCredit = N := by
  obtain ⟨b, h, j⟩ := k; cases b <;> rfl

/-- Waiting for a departure when nothing is owed any more. -/
theorem wp_gone {α : Type} {Q : α → sProp 𝕄} {s' : Shape} {e' : EltTy} {m₁ : Memref sig .tc .vmem s' e'} {h₁ : m₁.view.WordExact} {h₂ : (fromM k).view.WordExact}
    {p : PUnit → Prog (TpuEff nD τ sig (Elt F) Λ₀ .tc) α} :
    iprop(records X W K ∗ levAts L lv ∗ ow c 0 ∗ away c k)
      ⊢ iprop(((ow c 0 ∗ slot c k.1 k.2.1.castSucc k.2.2 (sent X W k.1 k.2.2 c k.2.1) ∗ semVal (sendCell c k) 0) -∗ Runs c (p ⟨⟩) Q)
          -∗ Runs c (.op (.waitDma2 (sendQ k) m₁ (fromM k) h₁ h₂) p) Q) :=
  wp_wait_cell X W K c (.inr (true, k)) N (fun R => by rw [wpE_waitDma2_eq, credit_from]; rfl) (expect_send X W c k).symm _ (sendPay X W c k)
    (rest_send X W c k) (by rw [MayWait_zero]; iintro -; iempintro)

end Xfer

end Cert.AllToAllSum

end
-- ==== Proof.Moves.lean ====
/-
# The kernel's moves

The kernel repeats four moves: it starts a first transfer; it waits for an arrival, adds its own product and passes the
sum on; it waits for a last arrival and stores the sum as a block of the result; it waits for a departure. Each is proved
once, over a state that says which transfers are still to be started, which arrivals are still to be waited for, and which
departures are outstanding.
-/
module

public import proofs.«01_k».proof.Proof.Steps

@[expose] public section

noncomputable section

namespace Cert.AllToAllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A resource for every transfer of a list -/

/-- `Φ` for every transfer of the list, in its order. -/
def chain (Φ : Xf → sProp 𝕄) : List Xf → sProp 𝕄
  | [] => iprop(emp)
  | k :: l => iprop(Φ k ∗ chain Φ l)

theorem chain_cons (Φ : Xf → sProp 𝕄) (k : Xf) (l : List Xf) : chain Φ (k :: l) = iprop(Φ k ∗ chain Φ l) := rfl

theorem chain_eq (Φ : Xf → sProp 𝕄) : ∀ l : List Xf, l.Nodup → chain Φ l = bigSep l.toFinset Φ
  | [], _ => rfl
  | k :: l, h => by
    rw [List.toFinset_cons, bigSep_insert (by rw [List.mem_toFinset]; exact (List.nodup_cons.mp h).1), ← chain_eq Φ l (List.nodup_cons.mp h).2]
    rfl

/-- A list of all transfers, in whatever order. -/
theorem chain_all (Φ : Xf → sProp 𝕄) (l : List Xf) (h : l.Nodup) (h' : l.toFinset = Finset.univ) : chain Φ l = bigSep Finset.univ Φ := by
  rw [chain_eq Φ l h, h']

theorem chain_sends (Φ : Xf → sProp 𝕄) : chain Φ allSends = bigSep Finset.univ Φ := chain_all Φ _ (by decide) (by decide)
theorem chain_reverse (Φ : Xf → sProp 𝕄) : chain Φ allSends.reverse = bigSep Finset.univ Φ := chain_all Φ _ (by decide) (by decide)

/-! ## The state -/

variable (X : Dev nD → FVec F S2048x512 .bf16) (W : Dev nD → FVec F S512x2048 .bf16) (K : Dev nD × Ci → ℕ)

/-- The semaphores' invariants and levels. -/
def laws : sProp 𝕄 := iprop(records X W K ∗ levAts L lv)
instance laws_persistent : BI.Persistent (laws X W K) := by unfold laws; infer_instance

/-- The transfers from the `n`-th on, and those before it, the last one first. -/
def rest (n : ℕ) : List Xf := allSends.drop n
def past (n : ℕ) : List Xf := (allSends.take n).reverse

/-- Device `c` has started `n` transfers and waited for `m` arrivals. -/
def stage (c : Dev nD) (n m : ℕ) : sProp 𝕄 :=
  iprop(ow c (debt c (rest n)) ∗ chain (ready c) (rest n) ∗ chain (due c) (rest m) ∗ chain (away c) (past n)
    ∗ chain (fun k => semVal (recvCell c k) 0) (past m))

/-- Transfer `k` is the `n`-th. -/
def Nth (n : ℕ) (k : Xf) : Prop := rest n = k :: rest (n + 1) ∧ past (n + 1) = k :: past n

theorem stage_start (c : Dev nD) : iprop(ow c (debt c allSends) ∗ chain (ready (F := F) c) allSends ∗ bigSep Finset.univ (due c)) ⊢ stage (F := F) c 0 0 := by
  rw [← chain_sends (due c)]
  unfold stage rest past
  simp only [List.drop_zero, List.take_zero, List.reverse_nil, chain]
  iintro ⟨H1, H2, H3⟩
  isplitl [H1]; · iexact H1
  isplitl [H2]; · iexact H2
  isplitl [H3]; · iexact H3
  isplitl <;> iempintro

section Moves
variable (c : Dev nD) (b : Bool) (j : Fin 2) (n m : ℕ) (lo ld : List Xf)

/-- The device stores its own first product in slot 0 and starts the first transfer. -/
theorem wp_first {α : Type} {Q : α → sProp 𝕄} (hk : Nth n (b, 0, j)) (t : Dev nD) (ht : t = tgt b c)
    {hl : (commM b).view.LoadsAt (slotR 0 j).toLoadRect} {hx : ((commM b).access (slotR 0 j)).Stores Finset.univ}
    {hm : (Finset.univ : Finset (slotR 0 j).shape.Idx) = Finset.univ ∨ ∀ a, (slotR 0 j).stride a = 1}
    {hsc : (intoM (b, 0, j)).view.ref.isScScratch = false} {hsrc : (fromM (b, 0, j)).view.WordExact} {hdst : (intoM (b, 0, j)).view.WordExact}
    {hsem : DmaTarget.Typed .vmem (.dma (recvQ (b, 0, j))) (.remote (Dev.tc t : Thread nD τ) (intoM (b, 0, j)) (.dma (sendQ (b, 0, j))) hsc)}
    {p : PUnit → Prog (TpuEff nD τ sig (Elt F) Λ₀ .tc) α} :
    iprop(laws X W K ∗ slotAny (F := F) c b 0 j ∗ stage c n m)
      ⊢ iprop((stage c (n + 1) m -∗ Runs c (p ⟨⟩) Q)
          -∗ Runs c (.op (.load (commM b) (slotR 0 j).toLoadRect hl) fun _ =>
              .op (.store (commM b) (slotR 0 j) (shapeCast S1x1x512x512 (prodB (X c) (W c) b j (dest b 0 c)) toSlot : S1x1x512x512.Idx → Elt F .bf16) Finset.univ hx hm) fun _ =>
              .op (.enqueueDma (fromM (b, 0, j)) (.remote (Dev.tc t : Thread nD τ) (intoM (b, 0, j)) (.dma (sendQ (b, 0, j))) hsc) (.dma (recvQ (b, 0, j))) hsrc hdst hsem) p) Q) := by
  unfold laws stage slotAny
  rw [hk.1, hk.2, chain_cons, chain_cons]
  iintro ⟨⟨#Hrec, #Hlev⟩, ⟨%V, Hs⟩, Ho, ⟨Hr, Hrs⟩, Hdue, Haw, Hz⟩ Hk
  iapply (wp_slot_load c b 0 j V) $$ Hs; iintro Hs
  iapply (wp_slot_store c b 0 j (prodB (X c) (W c) b j (dest b 0 c))) $$ [Hs]
  · unfold slotAny; iexists V; iexact Hs
  iintro Hs
  iapply (wp_depart X W K c (b, 0, j) t ht (rest (n + 1))) $$ [Hs Ho Hr]
  · isplitr; · iexact Hrec
    isplitl [Hs]; · iexact Hs
    isplitl [Ho] <;> iassumption
  iintro ⟨Ho, Ha⟩
  iapply Hk
  isplitl [Ho]; · iexact Ho
  isplitl [Hrs]; · iexact Hrs
  isplitl [Hdue]; · iexact Hdue
  isplitl [Ha Haw]
  · isplitl [Ha] <;> iassumption
  iexact Hz

/-- What goes out at a later hop is what came in plus the own product. -/
theorem sent_succ (h : Fin 2) :
    sent X W b j c h.succ = addf (sent X W b j (src b c) h.castSucc) (prodB (X c) (W c) b j (dest b h.succ.castSucc c)) := by
  fin_cases h <;> rfl

/-- The device waits for the arrival of hop `h`, adds its own product in the slot and starts the transfer of the next hop. -/
theorem wp_hop {α : Type} {Q : α → sProp 𝕄} (h : Fin 2) (hk : Nth n (b, h.succ, j)) (hk' : Nth m (b, h.castSucc, j)) (t : Dev nD) (ht : t = tgt b c)
    (hl' : ∀ k' ∈ rest n, h.val < k'.2.1.val)
    {s' : Shape} {e' : EltTy} {m₁ : Memref sig .tc .vmem s' e'} {h₁ : m₁.view.WordExact} {h₂ : (intoM (b, h.castSucc, j)).view.WordExact}
    {hl : (commM b).view.LoadsAt (slotR h.castSucc.succ j).toLoadRect} {hl2 : (commM b).view.LoadsAt (slotR h.castSucc.succ j).toLoadRect}
    {hx : ((commM b).access (slotR h.castSucc.succ j)).Stores Finset.univ}
    {hm : (Finset.univ : Finset (slotR h.castSucc.succ j).shape.Idx) = Finset.univ ∨ ∀ a, (slotR h.castSucc.succ j).stride a = 1}
    {hsc : (intoM (b, h.succ, j)).view.ref.isScScratch = false} {hsrc : (fromM (b, h.succ, j)).view.WordExact} {hdst : (intoM (b, h.succ, j)).view.WordExact}
    {hsem : DmaTarget.Typed .vmem (.dma (recvQ (b, h.succ, j))) (.remote (Dev.tc t : Thread nD τ) (intoM (b, h.succ, j)) (.dma (sendQ (b, h.succ, j))) hsc)}
    {p : PUnit → Prog (TpuEff nD τ sig (Elt F) Λ₀ .tc) α} :
    iprop(laws X W K ∗ stage c n m)
      ⊢ iprop((stage c (n + 1) (m + 1) -∗ Runs c (p ⟨⟩) Q)
          -∗ Runs c (.op (.waitDma2 (recvQ (b, h.castSucc, j)) m₁ (intoM (b, h.castSucc, j)) h₁ h₂) fun _ =>
              .op (.load (commM b) (slotR h.castSucc.succ j).toLoadRect hl) fun v =>
              .op (.load (commM b) (slotR h.castSucc.succ j).toLoadRect hl2) fun _ =>
              .op (.store (commM b) (slotR h.castSucc.succ j)
                (shapeCast S1x1x512x512 (addf (shapeCast S512x512 v toBlock : FVec F S512x512 .bf16) (prodB (X c) (W c) b j (dest b h.succ.castSucc c))) toSlot : S1x1x512x512.Idx → Elt F .bf16)
                Finset.univ hx hm) fun _ =>
              .op (.enqueueDma (fromM (b, h.succ, j)) (.remote (Dev.tc t : Thread nD τ) (intoM (b, h.succ, j)) (.dma (sendQ (b, h.succ, j))) hsc) (.dma (recvQ (b, h.succ, j))) hsrc hdst hsem) p) Q) := by
  unfold laws stage
  rw [hk.1, hk.2, hk'.1, hk'.2, chain_cons, chain_cons]
  iintro ⟨⟨#Hrec, #Hlev⟩, Ho, ⟨Hr, Hrs⟩, ⟨Hd, Hdue⟩, Haw, Hz⟩ Hk
  iapply (wp_arrive X W K c (b, h.castSucc, j) ((b, h.succ, j) :: rest (n + 1)) (by rw [← hk.1]; exact hl')) $$ [Ho Hd]
  · isplitr; · iexact Hrec
    isplitr; · iexact Hlev
    isplitl [Ho] <;> iassumption
  iintro ⟨Ho, Hs, Hz1⟩
  iapply (wp_slot_load c b h.castSucc.succ j) $$ Hs; iintro Hs
  iapply (wp_slot_load c b h.castSucc.succ j) $$ Hs; iintro Hs
  rw [shapeCast_shapeCast]
  iapply (wp_slot_store c b h.castSucc.succ j _) $$ [Hs]
  · unfold slotAny; iexists _; iexact Hs
  iintro Hs
  iapply (wp_depart X W K c (b, h.succ, j) t ht (rest (n + 1))) $$ [Hs Ho Hr]
  · isplitr; · iexact Hrec
    isplitl [Hs]
    · dsimp only; rw [sent_succ]; iexact Hs
    isplitl [Ho] <;> iassumption
  iintro ⟨Ho, Ha⟩
  iapply Hk
  isplitl [Ho]; · iexact Ho
  isplitl [Hrs]; · iexact Hrs
  isplitl [Hdue]; · iexact Hdue
  isplitl [Ha Haw]
  · rw [chain_cons]
    isplitl [Ha] <;> iassumption
  rw [chain_cons]
  isplitl [Hz1] <;> iassumption

theorem out_inb : ∀ (b : Bool) (j : Fin 2) (a : Fin 2), (![0, colOff b j] : Fin 2 → ℕ) a + S512x512.size a ≤ S512x2048.size a := by decide
/-- The columns of the result that direction `b`'s half `j` fills. -/
abbrev outR (b : Bool) (j : Fin 2) : Rect S512x2048 := Rect.unit (s := S512x2048) ![0, colOff b j] S512x512.size (out_inb b j)

/-- The result buffer, held whole. -/
def obuf (c : Dev nD) (f : FVec F S512x2048 .f32) : sProp 𝕄 :=
  oM.view.loc (c : Thread nD τ) ↦{fullShare} (f : Buf (Elt F) (oM.view.loc (c : Thread nD τ)))

/-- The result buffer with one block replaced. -/
def put (f : FVec F S512x2048 .f32) (b : Bool) (j : Fin 2) (v : FVec F S512x512 .f32) : FVec F S512x2048 .f32 :=
  (oM.access (outR b j)).write (Elt F) f v Finset.univ

/-- The device waits for a last arrival and stores it plus the own product as a block of the result. -/
theorem wp_last {α : Type} {Q : α → sProp 𝕄} (hk : Nth m (b, 2, j)) (hl' : ∀ k' ∈ rest n, 2 < k'.2.1.val) (f : FVec F S512x2048 .f32)
    {s' : Shape} {e' : EltTy} {m₁ : Memref sig .tc .vmem s' e'} {h₁ : m₁.view.WordExact} {h₂ : (intoM (b, 2, j)).view.WordExact}
    {hl : (commM b).view.LoadsAt (slotR 3 j).toLoadRect} {hl2 : oM.view.LoadsAt (outR b j).toLoadRect}
    {hx : (oM.access (outR b j)).Stores Finset.univ}
    {hm : (Finset.univ : Finset (outR b j).shape.Idx) = Finset.univ ∨ ∀ a, (outR b j).stride a = 1}
    {p : PUnit → Prog (TpuEff nD τ sig (Elt F) Λ₀ .tc) α} :
    iprop(laws X W K ∗ obuf c f ∗ stage c n m)
      ⊢ iprop(((obuf c (put f b j (tile X W b j c)) ∗ slotAny (F := F) c b 3 j ∗ stage c n (m + 1)) -∗ Runs c (p ⟨⟩) Q)
          -∗ Runs c (.op (.waitDma2 (recvQ (b, 2, j)) m₁ (intoM (b, 2, j)) h₁ h₂) fun _ =>
              .op (.load (commM b) (slotR 3 j).toLoadRect hl) fun v =>
              .op (.load oM (outR b j).toLoadRect hl2) fun _ =>
              .op (.store oM (outR b j)
                (addf (extf .f32 (shapeCast S512x512 v toBlock : FVec F S512x512 .bf16) bitsLt_bf16_f32) (prod (X c) (W c) b j (dest b 3 c)) : S512x512.Idx → Elt F .f32)
                Finset.univ hx hm) p) Q) := by
  unfold laws stage
  rw [hk.1, hk.2, chain_cons]
  iintro ⟨⟨#Hrec, #Hlev⟩, Hout, Ho, Hrs, ⟨Hd, Hdue⟩, Haw, Hz⟩ Hk
  iapply (wp_arrive X W K c (b, 2, j) (rest n) hl') $$ [Ho Hd]
  · isplitr; · iexact Hrec
    isplitr; · iexact Hlev
    isplitl [Ho] <;> iassumption
  iintro ⟨Ho, Hs, Hz1⟩
  ihave Hs := (Entails.of_eq (show slot c b (Fin.succ (2 : Fin 3)) j (sent X W b j (src b c) 2) = slot c b 3 j (sent X W b j (src b c) 2) from rfl)) $$ Hs
  iapply (wp_slot_load c b 3 j) $$ Hs; iintro Hs
  unfold obuf
  iapply (wp_load 𝒱₀ (c : Thread nD τ) none Set.univ (m := oM) (Finset.subset_univ _)) $$ Hout; iintro Hout
  rw [shapeCast_shapeCast]
  iapply (wp_store 𝒱₀ (c : Thread nD τ) none Set.univ (m := oM) (r := outR b j) (Mk := Finset.univ) (Finset.subset_univ _)) $$ Hout; iintro Hout
  iapply Hk
  isplitl [Hout]; · iexact Hout
  isplitl [Hs]; · unfold slotAny; iexists _; iexact Hs
  isplitl [Ho]; · iexact Ho
  isplitl [Hrs]; · iexact Hrs
  isplitl [Hdue]; · iexact Hdue
  isplitl [Haw]; · iexact Haw
  rw [chain_cons]
  isplitl [Hz1] <;> iassumption

/-- Nothing is owed; the departures `lo` are outstanding, the departures `ld` are done with and their slots are back. -/
def closing (c : Dev nD) (lo ld : List Xf) : sProp 𝕄 :=
  iprop(ow c 0 ∗ chain (away c) lo ∗ chain (fun k => iprop(slotAny (F := F) c k.1 k.2.1.castSucc k.2.2 ∗ semVal (sendCell c k) 0)) ld)

/-- The device waits for a departure. -/
theorem wp_back {α : Type} {Q : α → sProp 𝕄} (k : Xf) {s' : Shape} {e' : EltTy} {m₁ : Memref sig .tc .vmem s' e'} {h₁ : m₁.view.WordExact}
    {h₂ : (fromM k).view.WordExact} {p : PUnit → Prog (TpuEff nD τ sig (Elt F) Λ₀ .tc) α} :
    iprop(laws X W K ∗ closing c (k :: lo) ld)
      ⊢ iprop((closing c lo (k :: ld) -∗ Runs c (p ⟨⟩) Q) -∗ Runs c (.op (.waitDma2 (sendQ k) m₁ (fromM k) h₁ h₂) p) Q) := by
  unfold laws closing
  rw [chain_cons]
  iintro ⟨⟨#Hrec, #Hlev⟩, Ho, ⟨Ha, Haw⟩, Hz⟩ Hk
  iapply (wp_gone X W K c k) $$ [Ho Ha]
  · isplitr; · iexact Hrec
    isplitr; · iexact Hlev
    isplitl [Ho] <;> iassumption
  iintro ⟨Ho, Hs, Hz1⟩
  iapply Hk
  isplitl [Ho]; · iexact Ho
  isplitl [Haw]; · iexact Haw
  rw [chain_cons]
  isplitl [Hs Hz1]
  · isplitl [Hs]; · unfold slotAny; iexists _; iexact Hs
    iexact Hz1
  iexact Hz

end Moves

end Cert.AllToAllSum

end
-- ==== Proof.Body.lean ====
/-
# The kernel's body

The body of the kernel on one device, run move by move from what the launch gives it to what it leaves.
-/
module

public import proofs.«01_k».proof.Proof.Moves

@[expose] public section

noncomputable section

namespace Cert.AllToAllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → FVec F S2048x512 .bf16) (W : Dev nD → FVec F S512x2048 .bf16) (K : Dev nD × Ci → ℕ)

/-! ## Before the body and after it -/

/-- All slots of a direction's exchange buffer. -/
def slots (c : Dev nD) (b : Bool) : sProp 𝕄 :=
  iprop((slotAny (F := F) c b 0 0 ∗ slotAny (F := F) c b 0 1) ∗ (slotAny (F := F) c b 1 0 ∗ slotAny (F := F) c b 1 1)
    ∗ (slotAny (F := F) c b 2 0 ∗ slotAny (F := F) c b 2 1) ∗ (slotAny (F := F) c b 3 0 ∗ slotAny (F := F) c b 3 1))

/-- The two input blocks in the buffers the kernel reads. -/
def inputs (c : Dev nD) (x : FVec F S2048x512 .bf16) (w : FVec F S512x2048 .bf16) : sProp 𝕄 :=
  iprop((xM.view.loc (c : Thread nD τ) ↦{fullShare} (x : Buf (Elt F) (xM.view.loc (c : Thread nD τ))))
    ∗ (wM.view.loc (c : Thread nD τ) ↦{fullShare} (w : Buf (Elt F) (wM.view.loc (c : Thread nD τ)))))

/-- The tokens a device pays its duties with, and its rights to wait. -/
def stake (c : Dev nD) : sProp 𝕄 :=
  iprop(atPos ER (barCell c) 0 ∅ 0 ∗ dutyTok ER (barCell (src true c)) 0 true ∗ dutyTok ER (barCell (src false c)) 0 false
    ∗ bigSep Finset.univ (rights c) ∗ cred (tallyAt (barCell c) () 2) ∗ bigSep Finset.univ (due c))

def before (c : Dev nD) : sProp 𝕄 :=
  iprop(laws X W K ∗ stake c ∗ ow c (O₀ c) ∗ (slots (F := F) c true ∗ slots (F := F) c false) ∗ (∃ x, xbuf (F := F) c x) ∗ inputs c (X c) (W c)
    ∗ ∃ f, obuf (F := F) c f)

/-- The result of device `c`: its four blocks, whatever the buffer held. -/
def puts (c : Dev nD) (f : FVec F S512x2048 .f32) : FVec F S512x2048 .f32 :=
  put (put (put (put f true 0 (tile X W true 0 c)) false 0 (tile X W false 0 c)) true 1 (tile X W true 1 c)) false 1 (tile X W false 1 c)

/-- All semaphores back at zero. -/
def zeros (c : Dev nD) : sProp 𝕄 :=
  iprop(semVal (barCell c) 0 ∗ (bigSep Finset.univ fun k : Xf => semVal (sendCell c k) 0) ∗ bigSep Finset.univ fun k : Xf => semVal (recvCell c k) 0)

def after (c : Dev nD) : sProp 𝕄 :=
  iprop(zeros (F := F) c ∗ ow c 0 ∗ (slots (F := F) c true ∗ slots (F := F) c false) ∗ xbuf c (X c) ∗ inputs c (X c) (W c) ∗ ∃ f, obuf c (puts X W c f))

/-- Two resources for every transfer, held together or apart. -/
theorem chain_zip (Φ Ψ : Xf → sProp 𝕄) : ∀ l : List Xf, iprop(chain Φ l ∗ chain Ψ l) ⊢ chain (fun k => iprop(Φ k ∗ Ψ k)) l
  | [] => by simp only [chain]; iintro ⟨H1, H2⟩; iframe
  | k :: l => by
    rw [chain_cons, chain_cons, chain_cons]
    iintro ⟨⟨H1, Hl⟩, H2, Hr⟩
    isplitl [H1 H2]; · iframe
    iapply (chain_zip Φ Ψ l); iframe
theorem chain_unzip (Φ Ψ : Xf → sProp 𝕄) : ∀ l : List Xf, chain (fun k => iprop(Φ k ∗ Ψ k)) l ⊢ iprop(chain Φ l ∗ chain Ψ l)
  | [] => by simp only [chain]; iintro H; iframe
  | k :: l => by
    rw [chain_cons, chain_cons, chain_cons]
    iintro ⟨⟨H1, H2⟩, Hl⟩
    ihave H := (chain_unzip Φ Ψ l) $$ Hl
    icases H with ⟨G1, G2⟩
    iframe

/-- The slots both neighbours hand over at the barrier are those the transfers land in. -/
theorem landing (c : Dev nD) :
    iprop(barPay (F := F) c true ∗ barPay (F := F) c false) ⊢ chain (fun k => slotAny (F := F) (tgt k.1 c) k.1 k.2.1.succ k.2.2) allSends := by
  unfold barPay allSends
  simp only [chain, show Fin.succ (0 : Fin 3) = 1 from rfl, show Fin.succ (1 : Fin 3) = 2 from rfl, show Fin.succ (2 : Fin 3) = 3 from rfl]
  iintro ⟨⟨⟨H1, H2⟩, ⟨H3, H4⟩, H5, H6⟩, ⟨G1, G2⟩, ⟨G3, G4⟩, G5, G6⟩
  iframe

theorem ready_all (c : Dev nD) :
    iprop(bigSep Finset.univ (rights (F := F) c) ∗ barPay (F := F) c true ∗ barPay (F := F) c false) ⊢ chain (ready (F := F) c) allSends := by
  rw [← chain_sends (rights c)]
  iintro ⟨Hr, Hb⟩
  iapply (chain_zip (rights c) (fun k => slotAny (F := F) (tgt k.1 c) k.1 k.2.1.succ k.2.2) allSends)
  isplitl [Hr]; · iexact Hr
  iapply (landing c); iexact Hb

/-! ## The barrier -/

/-- The signal to the neighbour from which direction `b` comes: it gets the slots its transfers land in. -/
theorem wp_greet (c : Dev nD) (b : Bool) {α : Type} {Q : α → sProp 𝕄} (n : Dev nD) (hn : n = src b c) (O O' : CellTallies nD τ sig Unit)
    (hO : O' = O + tallyAt (barCell (src b c)) () 1) {p : PUnit → Prog (TpuEff nD τ sig (Elt F) Λ₀ .tc) α} :
    iprop(records X W K ∗ ow c O' ∗ dutyTok ER (barCell (src b c)) 0 b
        ∗ (slotAny (F := F) c b 1 0 ∗ slotAny (F := F) c b 1 1) ∗ (slotAny (F := F) c b 2 0 ∗ slotAny (F := F) c b 2 1) ∗ (slotAny (F := F) c b 3 0 ∗ slotAny (F := F) c b 3 1))
      ⊢ iprop((ow c O -∗ Runs c (p ⟨⟩) Q) -∗ Runs c (.op (.semSignal (Dev.tc n : Thread nD τ) barS 1) p) Q) := by
  subst hn hO
  unfold ow
  iintro ⟨#Hrec, ⟨%V, Ho⟩, Ht, Hs⟩ Hk
  iapply (Rounds.wp_signal 𝒱₀ ER (sched X W) (c : Thread nD τ) none (κ := K (src b c, .inl ())) (dst := (src b c : Thread nD τ)) (r := 0) (d := b)
    (by rw [duties_bar]; exact Finset.mem_univ _) (by exact amount_bar X W (src b c) b) () O rfl) $$ [Ho Ht Hs]
  · isplitr; · iapply (inv_at X W K (src b c, .inl ())); iexact Hrec
    isplitl [Ho]; · iexact Ho
    isplitl [Ht]; · iexact Ht
    isplitl [Hs]
    · rw [payload_bar]; unfold barPay; rw [tgt_src]; iexact Hs
    iapply (reached_at X W K (src b c, .inl ())); iexact Hrec
  iintro Ho
  iapply Hk
  iexists V; iexact Ho

/-- The copy of the left factor that the products are taken from, and the load of the right factor. -/
theorem wp_copy (c : Dev nD) (x x0 : FVec F S2048x512 .bf16) (w : FVec F S512x2048 .bf16) {α : Type} {Q : α → sProp 𝕄}
    {inb1 : ∀ a, (![0, 0] : Fin 2 → ℕ) a + S2048x512.size a ≤ S2048x512.size a} {inb2 : ∀ a, (![0, 0] : Fin 2 → ℕ) a + S512x2048.size a ≤ S512x2048.size a}
    {hl1 : xM.view.LoadsAt (Rect.unit (s := S2048x512) ![0, 0] S2048x512.size inb1).toLoadRect}
    {hl2 : bM.view.LoadsAt (Rect.unit (s := S2048x512) ![0, 0] S2048x512.size inb1).toLoadRect}
    {hl3 : wM.view.LoadsAt (Rect.unit (s := S512x2048) ![0, 0] S512x2048.size inb2).toLoadRect}
    {hx : (bM.access (Rect.unit (s := S2048x512) ![0, 0] S2048x512.size inb1)).Stores Finset.univ}
    {hm : (Finset.univ : Finset (Rect.unit (s := S2048x512) ![0, 0] S2048x512.size inb1).shape.Idx) = Finset.univ ∨ ∀ a, (Rect.unit (s := S2048x512) ![0, 0] S2048x512.size inb1).stride a = 1}
    {p : (S512x2048.Idx → Elt F .bf16) → Prog (TpuEff nD τ sig (Elt F) Λ₀ .tc) α} :
    iprop(xbuf c x0 ∗ inputs c x w)
      ⊢ iprop(((xbuf c x ∗ inputs c x w) -∗ Runs c (p w) Q)
          -∗ Runs c (.op (.load xM (Rect.unit (s := S2048x512) ![0, 0] S2048x512.size inb1).toLoadRect hl1) fun v =>
              .op (.load bM (Rect.unit (s := S2048x512) ![0, 0] S2048x512.size inb1).toLoadRect hl2) fun _ =>
              .op (.store bM (Rect.unit (s := S2048x512) ![0, 0] S2048x512.size inb1) (k0_pay1 v) Finset.univ hx hm) fun _ =>
              .op (.load wM (Rect.unit (s := S512x2048) ![0, 0] S512x2048.size inb2).toLoadRect hl3) p) Q) := by
  have hz : (![0, 0] : Fin 2 → ℕ) = fun _ => 0 := by funext a; fin_cases a <;> rfl
  have hrx : xM.view.readAt (Elt F) (Rect.unit (s := S2048x512) ![0, 0] S2048x512.size inb1).toLoadRect x = x := Memref.readAt_unit_zero (Elt F) cc0_stg0_0 hz _ x
  have hrw : wM.view.readAt (Elt F) (Rect.unit (s := S512x2048) ![0, 0] S512x2048.size inb2).toLoadRect w = w := Memref.readAt_unit_zero (Elt F) cc0_stg1_0 hz _ w
  have hwb : ∀ v : FVec F S2048x512 .bf16, (bM.access (Rect.unit (s := S2048x512) ![0, 0] S2048x512.size inb1)).write (Elt F) x0 v Finset.univ = v := fun v =>
    Memref.write_access_unit_zero_univ (Elt F) cc0_scratch0 hz _ x0 v
  have hp : k0_pay1 (F := F) x = x := by unfold k0_pay1; simp only [shapeCast_self]
  unfold xbuf inputs
  iintro ⟨Hb, Hx, Hw⟩ Hk
  iapply (wp_load 𝒱₀ (c : Thread nD τ) none Set.univ (m := xM) (Finset.subset_univ _)) $$ Hx; iintro Hx
  iapply (wp_load 𝒱₀ (c : Thread nD τ) none Set.univ (m := bM) (Finset.subset_univ _)) $$ Hb; iintro Hb
  iapply (wp_store 𝒱₀ (c : Thread nD τ) none Set.univ (m := bM) (r := Rect.unit (s := S2048x512) ![0, 0] S2048x512.size inb1) (Mk := Finset.univ) (Finset.subset_univ _)) $$ Hb; iintro Hb
  iapply (wp_load 𝒱₀ (c : Thread nD τ) none Set.univ (m := wM) (Finset.subset_univ _)) $$ Hw; iintro Hw
  rw [hwb, hrx, hrw, hp]
  iapply Hk
  isplitl [Hb]; · iexact Hb
  isplitl [Hx] <;> iassumption

/-! ## The run -/

theorem laws_parts : laws X W K ⊢ iprop(records X W K ∗ levAts L lv) := by unfold laws; exact Entails.refl

/-- Once all transfers are started and all arrivals are in, only the departures are outstanding. -/
theorem stage_end (c : Dev nD) : stage (F := F) c 12 12 ⊢ iprop(closing (F := F) c allSends [] ∗ bigSep Finset.univ fun k : Xf => semVal (recvCell c k) 0) := by
  rw [← chain_reverse, closing, show chain (away (F := F) c) allSends = chain (away c) allSends.reverse by rw [chain_sends, chain_reverse]]
  unfold stage
  rw [show past 12 = allSends.reverse from rfl, show rest 12 = [] from rfl]
  simp only [chain, debt]
  iintro ⟨H1, H2, H3, H4, H5⟩
  iframe

/-- When they are in too, the first three slots of every half and direction are back. -/
theorem closing_end (c : Dev nD) : closing (F := F) c [] allSends.reverse
    ⊢ iprop(ow c 0 ∗ chain (fun k => slotAny (F := F) c k.1 k.2.1.castSucc k.2.2) allSends ∗ bigSep Finset.univ fun k : Xf => semVal (sendCell c k) 0) := by
  rw [← chain_sends (fun k : Xf => semVal (sendCell c k) 0), closing, chain_reverse, ← chain_sends]
  iintro ⟨H1, H2, H3⟩
  ihave H := (chain_unzip _ _ allSends) $$ H3
  icases H with ⟨H4, H5⟩
  iframe

theorem slots_back (c : Dev nD) :
    iprop((chain (fun k => slotAny (F := F) c k.1 k.2.1.castSucc k.2.2) allSends ∗ slotAny (F := F) c true 3 0 ∗ slotAny (F := F) c true 3 1)
        ∗ slotAny (F := F) c false 3 0 ∗ slotAny (F := F) c false 3 1)
      ⊢ iprop(slots (F := F) c true ∗ slots (F := F) c false) := by
  unfold slots allSends
  simp only [chain, show Fin.castSucc (0 : Fin 3) = 0 from rfl, show Fin.castSucc (1 : Fin 3) = 1 from rfl, show Fin.castSucc (2 : Fin 3) = 2 from rfl]
  iintro ⟨⟨⟨H1, H2, H3, H4, H5, H6, H7, H8, H9, H10, H11, H12, -⟩, H13, H14⟩, H15, H16⟩
  iframe

theorem sound_body (c : Dev nD) {Q : PUnit → sProp 𝕄} :
    before X W K c ⊢ iprop((after X W c -∗ Q ⟨⟩) -∗ Runs c (cc0_body (F := F) xM (Memref.isWhole_whole _) wM (Memref.isWhole_whole _) oM (Memref.isWhole_whole _)
      bM (Memref.isWhole_whole _) (commM true) (Memref.isWhole_whole _) (commM false) (Memref.isWhole_whole _) (sendA true) (recvA true) (sendA false) (recvA false)) Q) := by
  rw [cc0_body_eq_skeleton]
  unfold cc0_body_skel
  rw [k0_part1_eq_skeleton]
  unfold before stake slots
  iintro ⟨#Hl, ⟨Hbar, Ht1, Ht2, Hrights, Hcb, Hdue⟩, Ho, ⟨⟨⟨R00, R01⟩, R⟩, ⟨L00, L01⟩, Lr⟩, ⟨%x0, Hx⟩, Hin, ⟨%f, Hf⟩⟩ Hk
  ihave Hl' := (laws_parts X W K) $$ Hl
  icases Hl' with ⟨#Hrec, #Hlev⟩
  simp only [k0_part1_skel, semSignalWord, semWaitWord, Prog.lift, Prog.bind_op, Prog.bind_ret, Prog.pure_eq_ret, wp_deviceId]
  iapply (wp_greet X W K c true ⟨k0_dev1 c, k0_dev1_lt c⟩ (Fin.ext (k0_dev1_eq c)) (O₁ c) (O₀ c) rfl) $$ [Ho Ht1 R]
  · isplitr; · iexact Hrec
    isplitl [Ho]; · iexact Ho
    isplitl [Ht1] <;> iassumption
  iintro Ho
  iapply (wp_greet X W K c false ⟨k0_dev2 c, k0_dev2_lt c⟩ (Fin.ext (k0_dev2_eq c)) (debt c allSends) (O₁ c) rfl) $$ [Ho Ht2 Lr]
  · isplitr; · iexact Hrec
    isplitl [Ho]; · iexact Ho
    isplitl [Ht2] <;> iassumption
  iintro Ho
  iapply (wp_wait_cell X W K c (.inl ()) 2 (fun R => wpE_semWait_eq (k := 2) 𝒱₀ _ _ _ R) (expect_bar X W c).symm (debt c allSends)
    iprop(barPay c true ∗ barPay c false) (rest_bar X W c) (mayWait_bar c allSends)) $$ [Ho Hcb Hbar]
  · isplitr; · iexact Hrec
    isplitr; · iexact Hlev
    isplitl [Ho]; · iexact Ho
    isplitl [Hcb]; · iexact Hcb
    iexact Hbar
  iintro ⟨Ho, Hp, Hzb⟩
  ihave Hready := (ready_all c) $$ [Hrights Hp]
  · isplitl [Hrights] <;> iassumption
  ihave St := (stage_start c) $$ [Ho Hready Hdue]
  · isplitl [Ho]; · iexact Ho
    isplitl [Hready] <;> iassumption
  iapply (wp_copy c (X c) x0 (W c)) $$ [Hx Hin]
  · isplitl [Hx]; · iexact Hx
    iexact Hin
  iintro ⟨Hx, Hin⟩
  rw [show k0_pay2 (W c) = W c by unfold k0_pay2; exact shapeCast_self _ _]
  -- hop 0
  simp only [k0_part2_eq_skeleton, k0_part2_skel, k0_part3_eq_skeleton, k0_part3_skel, k0_part4_eq_skeleton, k0_part4_skel, Prog.lift, Prog.bind_op, Prog.bind_ret, Prog.pure_eq_ret]
  iapply (wp_rows c (X c) (dest true 0 c) (off1_eq c)) $$ Hx; iintro Hx
  iapply (wp_first X W K c true 0 0 0 ⟨rfl, rfl⟩ ⟨k0_dev3 c, k0_dev3_lt c⟩ (Fin.ext (k0_dev3_eq c))) $$ [R00 St]
  · iframe Hl R00 St
  iintro St
  iapply (wp_rows c (X c) (dest false 0 c) (off2_eq c)) $$ Hx; iintro Hx
  iapply (wp_first X W K c false 0 1 0 ⟨rfl, rfl⟩ ⟨k0_dev4 c, k0_dev4_lt c⟩ (Fin.ext (k0_dev4_eq c))) $$ [L00 St]
  · iframe Hl L00 St
  iintro St
  iapply (wp_rows c (X c) (dest true 0 c) (off1_eq c)) $$ Hx; iintro Hx
  iapply (wp_first X W K c true 1 2 0 ⟨rfl, rfl⟩ ⟨k0_dev5 c, k0_dev5_lt c⟩ (Fin.ext (k0_dev5_eq c))) $$ [R01 St]
  · iframe Hl R01 St
  iintro St
  iapply (wp_rows c (X c) (dest false 0 c) (off2_eq c)) $$ Hx; iintro Hx
  iapply (wp_first X W K c false 1 3 0 ⟨rfl, rfl⟩ ⟨k0_dev6 c, k0_dev6_lt c⟩ (Fin.ext (k0_dev6_eq c))) $$ [L01 St]
  · iframe Hl L01 St
  iintro St
  -- hop 1
  iapply (wp_rows c (X c) (dest true 1 c) (off3_eq c 0)) $$ Hx; iintro Hx
  simp only [k0_part5_eq_skeleton, k0_part5_skel, k0_part6_eq_skeleton, k0_part6_skel, k0_part7_eq_skeleton, k0_part7_skel, k0_part8_eq_skeleton, k0_part8_skel,
    k0_part9_eq_skeleton, k0_part9_skel, Prog.lift, Prog.bind_op, Prog.bind_ret, Prog.pure_eq_ret]
  iapply (wp_rows c (X c) (dest true 1 c) (off3_eq c 0)) $$ Hx; iintro Hx
  iapply (wp_rows c (X c) (dest false 1 c) (off4_eq c 0)) $$ Hx; iintro Hx
  iapply (wp_rows c (X c) (dest false 1 c) (off4_eq c 0)) $$ Hx; iintro Hx
  iapply (wp_hop X W K c true 0 4 0 0 ⟨rfl, rfl⟩ ⟨rfl, rfl⟩ ⟨k0_dev7 c, k0_dev7_lt c⟩ (Fin.ext (k0_dev7_eq c)) (by decide)) $$ [St]
  · iframe Hl St
  iintro St
  iapply (wp_hop X W K c false 0 5 1 0 ⟨rfl, rfl⟩ ⟨rfl, rfl⟩ ⟨k0_dev8 c, k0_dev8_lt c⟩ (Fin.ext (k0_dev8_eq c)) (by decide)) $$ [St]
  · iframe Hl St
  iintro St
  iapply (wp_hop X W K c true 1 6 2 0 ⟨rfl, rfl⟩ ⟨rfl, rfl⟩ ⟨k0_dev9 c, k0_dev9_lt c⟩ (Fin.ext (k0_dev9_eq c)) (by decide)) $$ [St]
  · iframe Hl St
  iintro St
  iapply (wp_hop X W K c false 1 7 3 0 ⟨rfl, rfl⟩ ⟨rfl, rfl⟩ ⟨k0_dev10 c, k0_dev10_lt c⟩ (Fin.ext (k0_dev10_eq c)) (by decide)) $$ [St]
  · iframe Hl St
  iintro St
  -- hop 2
  simp only [k0_part10_eq_skeleton, k0_part10_skel, k0_part11_eq_skeleton, k0_part11_skel, k0_part12_eq_skeleton, k0_part12_skel, k0_part13_eq_skeleton, k0_part13_skel,
    k0_part14_eq_skeleton, k0_part14_skel, Prog.lift, Prog.bind_op, Prog.bind_ret, Prog.pure_eq_ret]
  iapply (wp_rows c (X c) (dest true 2 c) (off3_eq c 1)) $$ Hx; iintro Hx
  iapply (wp_rows c (X c) (dest true 2 c) (off3_eq c 1)) $$ Hx; iintro Hx
  iapply (wp_rows c (X c) (dest false 2 c) (off4_eq c 1)) $$ Hx; iintro Hx
  iapply (wp_rows c (X c) (dest false 2 c) (off4_eq c 1)) $$ Hx; iintro Hx
  iapply (wp_hop X W K c true 0 8 4 1 ⟨rfl, rfl⟩ ⟨rfl, rfl⟩ ⟨k0_dev11 c, k0_dev11_lt c⟩ (Fin.ext (k0_dev11_eq c)) (by decide)) $$ [St]
  · iframe Hl St
  iintro St
  iapply (wp_hop X W K c false 0 9 5 1 ⟨rfl, rfl⟩ ⟨rfl, rfl⟩ ⟨k0_dev12 c, k0_dev12_lt c⟩ (Fin.ext (k0_dev12_eq c)) (by decide)) $$ [St]
  · iframe Hl St
  iintro St
  iapply (wp_hop X W K c true 1 10 6 1 ⟨rfl, rfl⟩ ⟨rfl, rfl⟩ ⟨k0_dev13 c, k0_dev13_lt c⟩ (Fin.ext (k0_dev13_eq c)) (by decide)) $$ [St]
  · iframe Hl St
  iintro St
  iapply (wp_hop X W K c false 1 11 7 1 ⟨rfl, rfl⟩ ⟨rfl, rfl⟩ ⟨k0_dev14 c, k0_dev14_lt c⟩ (Fin.ext (k0_dev14_eq c)) (by decide)) $$ [St]
  · iframe Hl St
  iintro St
  -- the last stage
  simp only [k0_part15_eq_skeleton, k0_part15_skel, k0_part16_eq_skeleton, k0_part16_skel, k0_part17_eq_skeleton, k0_part17_skel, k0_part18_eq_skeleton, k0_part18_skel,
    Prog.lift, Prog.bind_op, Prog.bind_ret, Prog.pure_eq_ret]
  iapply (wp_rows c (X c) (dest true 3 c) (off3_eq c 2)) $$ Hx; iintro Hx
  iapply (wp_rows c (X c) (dest true 3 c) (off3_eq c 2)) $$ Hx; iintro Hx
  iapply (wp_rows c (X c) (dest false 3 c) (off4_eq c 2)) $$ Hx; iintro Hx
  iapply (wp_rows c (X c) (dest false 3 c) (off4_eq c 2)) $$ Hx; iintro Hx
  iapply (wp_last X W K c true 0 12 8 ⟨rfl, rfl⟩ (by decide) f) $$ [Hf St]
  · iframe Hl Hf St
  iintro ⟨Hf, R30, St⟩
  iapply (wp_last X W K c false 0 12 9 ⟨rfl, rfl⟩ (by decide) _) $$ [Hf St]
  · iframe Hl Hf St
  iintro ⟨Hf, L30, St⟩
  iapply (wp_last X W K c true 1 12 10 ⟨rfl, rfl⟩ (by decide) _) $$ [Hf St]
  · iframe Hl Hf St
  iintro ⟨Hf, R31, St⟩
  iapply (wp_last X W K c false 1 12 11 ⟨rfl, rfl⟩ (by decide) _) $$ [Hf St]
  · iframe Hl Hf St
  iintro ⟨Hf, L31, St⟩
  ihave St := (stage_end c) $$ St
  icases St with ⟨St, Hzr⟩
  -- the departures
  simp only [k0_part19_eq_skeleton, k0_part19_skel, k0_part20_eq_skeleton, k0_part20_skel, k0_part21_eq_skeleton, k0_part21_skel, Prog.lift, Prog.bind_op, Prog.bind_ret, Prog.pure_eq_ret]
  iapply (wp_back X W K c _ _ (true, 0, 0)) $$ [St]
  · iframe Hl; iexact St
  iintro St
  iapply (wp_back X W K c _ _ (false, 0, 0)) $$ [St]
  · iframe Hl; iexact St
  iintro St
  iapply (wp_back X W K c _ _ (true, 0, 1)) $$ [St]
  · iframe Hl; iexact St
  iintro St
  iapply (wp_back X W K c _ _ (false, 0, 1)) $$ [St]
  · iframe Hl; iexact St
  iintro St
  iapply (wp_back X W K c _ _ (true, 1, 0)) $$ [St]
  · iframe Hl; iexact St
  iintro St
  iapply (wp_back X W K c _ _ (false, 1, 0)) $$ [St]
  · iframe Hl; iexact St
  iintro St
  iapply (wp_back X W K c _ _ (true, 1, 1)) $$ [St]
  · iframe Hl; iexact St
  iintro St
  iapply (wp_back X W K c _ _ (false, 1, 1)) $$ [St]
  · iframe Hl; iexact St
  iintro St
  iapply (wp_back X W K c _ _ (true, 2, 0)) $$ [St]
  · iframe Hl; iexact St
  iintro St
  iapply (wp_back X W K c _ _ (false, 2, 0)) $$ [St]
  · iframe Hl; iexact St
  iintro St
  iapply (wp_back X W K c _ _ (true, 2, 1)) $$ [St]
  · iframe Hl; iexact St
  iintro St
  iapply (wp_back X W K c _ _ (false, 2, 1)) $$ [St]
  · iframe Hl; iexact St
  iintro St
  ihave St := (closing_end c) $$ [St]
  · iexact St
  icases St with ⟨Ho, Hs, Hzs⟩
  ihave Hs := (slots_back c) $$ [Hs R30 R31 L30 L31]
  · iframe Hs R30 R31 L30 L31
  simp only [wp_ret]
  imodintro
  iapply Hk
  unfold after zeros
  iframe Hzb Hzs Hzr Ho Hs Hx Hin
  iexists f; iexact Hf

end Cert.AllToAllSum

end
-- ==== Proof.Slots.lean ====
/-
# The buffers by parts

The exchange buffers slot by slot, and the result block by block.
-/
module

public import proofs.«01_k».proof.Proof.Body
public import Idealize.ShloMosaic.Lib.Ring

@[expose] public section

noncomputable section

namespace Cert.AllToAllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → FVec F S2048x512 .bf16) (W : Dev nD → FVec F S512x2048 .bf16) (K : Dev nD × Ci → ℕ)

/-! ## Before the body and after it -/

/-! ## The exchange buffers -/

section Exchange
variable (c : Dev nD) (b : Bool)

/-- The elements of a slot. -/
def slotSet : (b : Bool) → Fin 4 × Fin 2 → Finset (Idx ((c : Thread nD τ).loc (commR b)))
  | true, p => (slotM true p.1 p.2).view.set
  | false, p => (slotM false p.1 p.2).view.set

theorem slotSet_eq (p : Fin 4 × Fin 2) : slotSet c true p = (slotR p.1 p.2).set ∧ slotSet c false p = (slotR p.1 p.2).set :=
  ⟨(View.set_reshape ((View.whole cc0_scratch1).slice (slotR p.1 p.2)) _).trans (View.set_slice_whole cc0_scratch1 _),
    (View.set_reshape ((View.whole cc0_scratch2).slice (slotR p.1 p.2)) _).trans (View.set_slice_whole cc0_scratch2 _)⟩

theorem mem_slotR (p : Fin 4 × Fin 2) (y : S4x2x512x512.Idx) : y ∈ (slotR p.1 p.2).set ↔ p = (y 0, y 1) := by
  rw [Rect.mem_set_unit]
  constructor
  · intro h
    have h0 := h 0; have h1 := h 1
    simp only [Matrix.cons_val_zero, Matrix.cons_val_one] at h0 h1
    refine Prod.ext (Fin.ext ?_) (Fin.ext ?_)
    · have : (S1x1x512x512.size 0) = 1 := rfl
      show p.1.val = (y 0).val; omega
    · have : (S1x1x512x512.size 1) = 1 := rfl
      show p.2.val = (y 1).val; omega
  · rintro rfl a
    have h2 : (y 2).val < 512 := (y 2).isLt
    have h3 : (y 3).val < 512 := (y 3).isLt
    fin_cases a
    · exact ⟨le_refl _, Nat.lt_succ_self _⟩
    · exact ⟨le_refl _, Nat.lt_succ_self _⟩
    · exact ⟨Nat.zero_le _, by show (y 2).val < 0 + 512; omega⟩
    · exact ⟨Nat.zero_le _, by show (y 3).val < 0 + 512; omega⟩

theorem slotR_disjoint (p q : Fin 4 × Fin 2) (h : p ≠ q) : Disjoint (slotR p.1 p.2).set (slotR q.1 q.2).set :=
  Finset.disjoint_left.mpr fun y hp hq => h (((mem_slotR p y).mp hp).trans ((mem_slotR q y).mp hq).symm)
theorem slotR_cover : (Finset.univ : Finset (Fin 4 × Fin 2)).biUnion (fun p => (slotR p.1 p.2).set) = Finset.univ :=
  Finset.eq_univ_iff_forall.mpr fun y => Finset.mem_biUnion.mpr ⟨(y 0, y 1), Finset.mem_univ _, (mem_slotR _ y).mpr rfl⟩

theorem slotSet_disjoint (p q : Fin 4 × Fin 2) (h : p ≠ q) : Disjoint (slotSet c b p) (slotSet c b q) := by
  cases b
  · rw [(slotSet_eq c p).2, (slotSet_eq c q).2]; exact slotR_disjoint p q h
  · rw [(slotSet_eq c p).1, (slotSet_eq c q).1]; exact slotR_disjoint p q h
theorem slotSet_cover : (Finset.univ : Finset (Fin 4 × Fin 2)).biUnion (slotSet c b) = Finset.univ := by
  cases b
  · rw [show slotSet c false = _ from funext fun p => (slotSet_eq c p).2]; exact slotR_cover
  · rw [show slotSet c true = _ from funext fun p => (slotSet_eq c p).1]; exact slotR_cover

theorem slotAny_eq (p : Fin 4 × Fin 2) :
    slotAny (F := F) c b p.1 p.2 = iprop(∃ f : Buf (Elt F) ((c : Thread nD τ).loc (commR b)), ((c : Thread nD τ).loc (commR b)) ↦[slotSet c b p]{fullShare} f) := by
  have h1 : slotAny (F := F) c b p.1 p.2 ⊢ iprop(∃ f : Buf (Elt F) ((c : Thread nD τ).loc (commR b)), ((c : Thread nD τ).loc (commR b)) ↦[slotSet c b p]{fullShare} f) := by
    unfold slotAny slot owns
    cases b <;> (iintro ⟨%V, %f, -, H⟩; iexists f; iexact H)
  have h2 : iprop(∃ f : Buf (Elt F) ((c : Thread nD τ).loc (commR b)), ((c : Thread nD τ).loc (commR b)) ↦[slotSet c b p]{fullShare} f) ⊢ slotAny (F := F) c b p.1 p.2 := by
    unfold slotAny slot owns
    cases b <;>
    · iintro ⟨%f, H⟩
      iexists _; iexists f
      isplitr; · ipureintro; rfl
      iexact H
  exact Entails.antisymm h1 h2

/-- All slots are the slots one by one. -/
theorem slots_eq : slots (F := F) c b = bigSep Finset.univ fun p : Fin 4 × Fin 2 => slotAny (F := F) c b p.1 p.2 := by
  rw [bigSep_univ_prod, bigSep_univ_eq_bigSepL [0, 1, 2, 3] (by decide) (by decide)]
  simp only [bigSep_univ_eq_bigSepL [(0 : Fin 2), 1] (by decide) (by decide)]
  rfl

/-- An exchange buffer held whole is all its slots, -/
theorem slots_split : iprop(∃ f : Buf (Elt F) ((c : Thread nD τ).loc (commR b)), ((c : Thread nD τ).loc (commR b)) ↦{fullShare} f) ⊢ slots (F := F) c b := by
  rw [slots_eq]
  simp only [slotAny_eq]
  iintro ⟨%f, H⟩
  ihave H := (Entails.of_eq (Ring.pointsTo_blocks (slotSet c b) (slotSet_disjoint c b) (slotSet_cover c b) f)) $$ H
  have h1 : ∀ p, (((c : Thread nD τ).loc (commR b)) ↦[slotSet c b p]{fullShare} f : sProp 𝕄)
      ⊢ iprop(∃ f : Buf (Elt F) ((c : Thread nD τ).loc (commR b)), ((c : Thread nD τ).loc (commR b)) ↦[slotSet c b p]{fullShare} f) := fun p => by
    iintro H; iexists f; iexact H
  have h : (bigSep Finset.univ fun p : Fin 4 × Fin 2 => (((c : Thread nD τ).loc (commR b)) ↦[slotSet c b p]{fullShare} f : sProp 𝕄))
      ⊢ bigSep Finset.univ fun p : Fin 4 × Fin 2 => iprop(∃ f : Buf (Elt F) ((c : Thread nD τ).loc (commR b)), ((c : Thread nD τ).loc (commR b)) ↦[slotSet c b p]{fullShare} f) :=
    bigSep_mono fun p _ => h1 p
  iapply h; iexact H

/-- and back. -/
theorem slots_join : slots (F := F) c b ⊢ iprop(∃ f : Buf (Elt F) ((c : Thread nD τ).loc (commR b)), ((c : Thread nD τ).loc (commR b)) ↦{fullShare} f) := by
  rw [slots_eq]
  simp only [slotAny_eq]
  cases b
  · exact Ring.pointsTo_blocks_join_exists (slotSet c false) (slotSet_disjoint c false) (slotSet_cover c false)
      (constant S4x2x512x512 .bf16 0x0000#16 : FVec F S4x2x512x512 .bf16)
  · exact Ring.pointsTo_blocks_join_exists (slotSet c true) (slotSet_disjoint c true) (slotSet_cover c true)
      (constant S4x2x512x512 .bf16 0x0000#16 : FVec F S4x2x512x512 .bf16)

end Exchange

/-! ## The result -/

section Result
variable (X : Dev nD → FVec F S2048x512 .bf16) (W : Dev nD → FVec F S512x2048 .bf16) (c : Dev nD)

/-- Which direction and half fill a column of the result. -/
def dirOf (n : ℕ) : Bool := decide (n < 1024)
def halfOf (n : ℕ) : Fin 2 := ⟨n / 512 % 2, Nat.mod_lt _ (by decide)⟩

/-- A 512 × 512 block's element below an element of the result. -/
def inTile (y : S512x2048.Idx) : S512x512.Idx := fun a => match a with
  | ⟨0, _⟩ => ⟨(y 0).val, (y 0).isLt⟩
  | ⟨1, _⟩ => ⟨(y 1).val % 512, Nat.mod_lt _ (by decide)⟩

/-- The result of device `c`, block by block. -/
def outAt : FVec F S512x2048 .f32 := fun y => tile X W (dirOf (y 1).val) (halfOf (y 1).val) c (inTile y)

theorem col_iff (n : ℕ) (hn : n < 2048) : ∀ (b : Bool) (j : Fin 2), (colOff b j ≤ n ∧ n < colOff b j + 512) ↔ (dirOf n = b ∧ halfOf n = j)
  | true, ⟨0, _⟩ => by simp only [colOff, dirOf, halfOf, decide_eq_true_eq, Fin.ext_iff]; omega
  | true, ⟨1, _⟩ => by simp only [colOff, dirOf, halfOf, decide_eq_true_eq, Fin.ext_iff]; omega
  | false, ⟨0, _⟩ => by simp only [colOff, dirOf, halfOf, decide_eq_false_iff_not, Fin.ext_iff]; omega
  | false, ⟨1, _⟩ => by simp only [colOff, dirOf, halfOf, decide_eq_false_iff_not, Fin.ext_iff]; omega

theorem colOff_mod : ∀ (b : Bool) (j : Fin 2), colOff b j % 512 = 0 := by decide

theorem put_apply (f : FVec F S512x2048 .f32) (b : Bool) (j : Fin 2) (v : FVec F S512x512 .f32) (y : S512x2048.Idx) :
    put f b j v y = if dirOf (y 1).val = b ∧ halfOf (y 1).val = j then v (inTile y) else f y := by
  have hy : (y 1).val < 2048 := (y 1).isLt
  rw [← if_congr (col_iff (y 1).val hy b j) rfl rfl]
  unfold put
  split
  · next h =>
    have he : (oM.access (outR b j)).emb (inTile y) = y := by
      have hm := colOff_mod b j
      funext a
      refine Fin.ext ?_
      fin_cases a
      · show 0 + 1 * (y 0).val = (y 0).val; omega
      · show colOff b j + 1 * ((y 1).val % 512) = (y 1).val; omega
    have h1 := congrFun (View.read_write_univ (Val := Elt F) (v := oM.access (outR b j)) f v) (inTile y)
    rw [View.read_apply, cast_eq, he] at h1
    exact h1
  · next h =>
    refine View.write_of_not_mem (Val := Elt F) (v := oM.access (outR b j)) f v Finset.univ ?_
    intro hm
    have hm' : y ∈ ((View.whole cc0_stg2_0).slice (outR b j)).set := hm
    rw [View.set_slice_whole, Rect.mem_set_unit] at hm'
    exact h (hm' 1)

theorem puts_eq (f : FVec F S512x2048 .f32) : puts X W c f = outAt X W c := by
  funext y
  unfold puts outAt
  simp only [put_apply]
  have hj : halfOf (y 1).val = 0 ∨ halfOf (y 1).val = 1 := by generalize halfOf (y 1).val = j; fin_cases j <;> simp
  rcases hb : dirOf (y 1).val with _ | _ <;> rcases hj with hj | hj <;> simp [hj]

end Result

end Cert.AllToAllSum

end
-- ==== Proof.Ghost.lean ====
/-
# Sharing out the tokens

Every cell comes with the tokens of its duties. Here they go to the devices that pay them: the barrier tokens and the
arrival tokens to the neighbours. The credits a device waits with come from what the other devices owe it.
-/
module

public import proofs.«01_k».proof.Proof.Slots
public import Idealize.ShloMosaic.Lib.Pipeline.Launch
public import Idealize.ShloMosaic.Lib.Pipeline.Kit

@[expose] public section

noncomputable section

namespace Cert.AllToAllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cellOf)

variable {F : FTy → Type} [FloatOps F]

local notation "𝕄" => MT nD τ sig Unit (Elt F) ℕ UU ℕ

variable (X : Dev nD → FVec F S2048x512 .bf16) (W : Dev nD → FVec F S512x2048 .bf16)

/-! ## All cells and all tokens -/

theorem kcell_eq {a a' : Dev nD × Ci} (h : kcell a = kcell a') : a = a' :=
  Prod.ext (congrArg (fun g : GSem nD τ sig => g.1.1) h) (csem_injective (congrArg Prod.snd h))

def allCells : Finset (GSem nD τ sig) := Finset.univ.map ⟨kcell, fun _ _ h => kcell_eq h⟩

/-- The tokens of one device's cells: two at its barrier, one at each transfer semaphore. -/
abbrev Ti : Type := Bool ⊕ (Bool × Xf)
/-- The cell of a token, and which of the cell's duties it is for. -/
def cellOfTok : Ti → Ci
  | .inl _ => .inl ()
  | .inr i => .inr i
def dutyOfTok : Ti → Bool
  | .inl b => b
  | .inr _ => false
theorem tok_ext {t t' : Ti} (h : cellOfTok t = cellOfTok t') (h' : dutyOfTok t = dutyOfTok t') : t = t' := by
  rcases t with b | i <;> rcases t' with b' | i'
  · exact congrArg Sum.inl h'
  · cases h
  · cases h
  · exact congrArg Sum.inr (Sum.inr.inj h)

def tokAt (ct : Dev nD × Ti) : GSem nD τ sig × ℕ × Bool := (kcell (ct.1, cellOfTok ct.2), 0, dutyOfTok ct.2)
theorem tokAt_injective : Function.Injective tokAt := fun a a' h => by
  have h1 := kcell_eq (congrArg Prod.fst h)
  exact Prod.ext (show a.1 = a'.1 from congrArg (fun x : Dev nD × Ci => x.1) h1) (tok_ext (show cellOfTok a.2 = cellOfTok a'.2 from congrArg (fun x : Dev nD × Ci => x.2) h1) (congrArg (fun x : GSem nD τ sig × ℕ × Bool => x.2.2) h))

def allToks : Finset (GSem nD τ sig × ℕ × Bool) := Finset.univ.map ⟨tokAt, tokAt_injective⟩

/-- The ghost state at launch: the staging pipeline's and the kernel's own. -/
def u₀ : UU := (initOf (Pipeline.cells cfgs cellOf_inj) (Pipeline.launchToks cfgs cellOf_inj), initOf allCells allToks)

/-- A device's places at its own cells, -/
def places (c : Dev nD) : sProp 𝕄 := bigSep Finset.univ fun i : Ci => atPos ER (kcell (c, i)) 0 ∅ 0
/-- the tokens of its own cells, -/
def minted (c : Dev nD) : sProp 𝕄 :=
  bigSep Finset.univ fun t : Ti => dutyTok ER (kcell (c, cellOfTok t)) 0 (dutyOfTok t)
/-- and all the launch gives it. -/
def dealt (c : Dev nD) : sProp 𝕄 :=
  iprop((bigSep Finset.univ fun i : Ci => roundState ER (sched X W) (kcell (c, i)) 0)
    ∗ places c ∗ (bigSep Finset.univ fun i : Ci => reached ER (kcell (c, i)) 0) ∗ minted c)

/-- The ghost state at launch falls into the devices' parts. -/
theorem deal : BI.own (ER (initOf allCells allToks)) ⊢ (|==> bigSep Finset.univ (dealt X W) : sProp 𝕄) := by
  have hc (Φ : GSem nD τ sig → sProp 𝕄) : bigSep allCells Φ = bigSep Finset.univ fun c : Dev nD => bigSep Finset.univ fun i : Ci => Φ (kcell (c, i)) := by
    unfold allCells; rw [bigSep_map]; exact bigSep_univ_prod _
  have ht : bigSep allToks (fun x => (dutyTok ER x.1 x.2.1 x.2.2 : sProp 𝕄)) = bigSep Finset.univ fun c : Dev nD => minted c := by
    unfold allToks; rw [bigSep_map]; exact bigSep_univ_prod _
  iintro H
  imod (Rounds.fund ER (sched X W) allCells allToks) $$ H with ⟨H1, H2, H3, H4⟩
  imodintro
  ihave G1 := (Entails.of_eq (hc fun g => roundState ER (sched X W) g 0)) $$ H1
  ihave G2 := (Entails.of_eq (hc fun g => reached ER g 0)) $$ H2
  ihave G3 := (Entails.of_eq (hc fun g => atPos ER g 0 ∅ 0)) $$ H3
  ihave G4 := (Entails.of_eq ht) $$ H4
  unfold dealt places
  simp only [bigSep_sep']
  isplitl [G1]; · iexact G1
  isplitl [G3]; · iexact G3
  isplitl [G2]; · iexact G2
  iexact G4

/-! ## The tokens go to the devices that pay with them -/

/-- What a device holds of the ghost state once the tokens are shared out. -/
def hand (c : Dev nD) : sProp 𝕄 :=
  iprop(atPos ER (barCell c) 0 ∅ 0 ∗ dutyTok ER (barCell (src true c)) 0 true ∗ dutyTok ER (barCell (src false c)) 0 false
    ∗ bigSep Finset.univ (rights c) ∗ bigSep Finset.univ fun k : Xf => atPos ER (recvCell c k) 0 ∅ 0)

/-- From a device and one of its transfers to the device the transfer goes to. -/
def across : Dev nD × Xf ≃ Dev nD × Xf where
  toFun p := (tgt p.2.1 p.1, p.2)
  invFun p := (src p.2.1 p.1, p.2)
  left_inv p := Prod.ext (src_tgt p.2.1 p.1) rfl
  right_inv p := Prod.ext (tgt_src p.2.1 p.1) rfl

theorem bigSep_ci (Φ : Ci → sProp 𝕄) : bigSep Finset.univ Φ
    = iprop(Φ (.inl ()) ∗ (bigSep Finset.univ fun k : Xf => Φ (.inr (true, k))) ∗ bigSep Finset.univ fun k : Xf => Φ (.inr (false, k))) := by
  rw [bigSep_univ_sum, bigSep_univ_prod, bigSep_univ_eq_bigSepL [()] (by decide) (by decide), bigSepL_singleton,
    bigSep_univ_eq_bigSepL [true, false] (by decide) (by decide), bigSepL_cons_cons, bigSepL_singleton]
  rfl

theorem bigSep_ti (Φ : Ti → sProp 𝕄) : bigSep Finset.univ Φ
    = iprop((Φ (.inl true) ∗ Φ (.inl false)) ∗ (bigSep Finset.univ fun k : Xf => Φ (.inr (true, k))) ∗ bigSep Finset.univ fun k : Xf => Φ (.inr (false, k))) := by
  rw [bigSep_univ_sum, bigSep_univ_prod, bigSep_univ_eq_bigSepL [true, false] (by decide) (by decide), bigSepL_cons_cons, bigSepL_singleton,
    bigSep_univ_eq_bigSepL [true, false] (by decide) (by decide), bigSepL_cons_cons, bigSepL_singleton]
  rfl

/-- All devices' places and tokens together are all devices' hands. -/
theorem share_out : iprop((bigSep Finset.univ fun c : Dev nD => (places c : sProp 𝕄)) ∗ bigSep Finset.univ fun c : Dev nD => (minted c : sProp 𝕄))
    ⊢ bigSep Finset.univ fun c : Dev nD => (hand c : sProp 𝕄) := by
  have hr : (bigSep Finset.univ fun c : Dev nD => bigSep Finset.univ fun k : Xf => (dutyTok ER (recvCell c k) 0 false : sProp 𝕄))
      = bigSep Finset.univ fun c : Dev nD => bigSep Finset.univ fun k : Xf => (dutyTok ER (recvCell (tgt k.1 c) k) 0 false : sProp 𝕄) := by
    rw [← bigSep_univ_prod fun p : Dev nD × Xf => (dutyTok ER (recvCell p.1 p.2) 0 false : sProp 𝕄),
      ← bigSep_univ_prod fun p : Dev nD × Xf => (dutyTok ER (recvCell (tgt p.2.1 p.1) p.2) 0 false : sProp 𝕄)]
    exact bigSep_univ_equiv across _
  have hb (b : Bool) : (bigSep Finset.univ fun c : Dev nD => (dutyTok ER (barCell c) 0 b : sProp 𝕄))
      = bigSep Finset.univ fun c : Dev nD => (dutyTok ER (barCell (src b c)) 0 b : sProp 𝕄) := bigSep_univ_equiv (turn b).symm _
  unfold places minted hand rights
  simp only [bigSep_ci, bigSep_ti, bigSep_sep']
  show iprop(_ ∗ ((bigSep Finset.univ fun c : Dev nD => (dutyTok ER (barCell c) 0 true : sProp 𝕄))
    ∗ bigSep Finset.univ fun c : Dev nD => (dutyTok ER (barCell c) 0 false : sProp 𝕄)) ∗ _
    ∗ bigSep Finset.univ fun c : Dev nD => bigSep Finset.univ fun k : Xf => (dutyTok ER (recvCell c k) 0 false : sProp 𝕄)) ⊢ _
  rw [hb, hb, hr]
  iintro ⟨⟨H1, H2, H3⟩, ⟨G1, G2⟩, G3, G4⟩
  isplitl [H1]; · iexact H1
  isplitl [G1]; · iexact G1
  isplitl [G2]; · iexact G2
  isplitl [G3 G4 H2]
  · isplitl [G3]; · iexact G3
    isplitl [G4]; · iexact G4
    iexact H2
  iexact H3

/-- What a device starts from: the invariants of all cells, under some names, and its hand. -/
def armed (c : Dev nD) : sProp 𝕄 := iprop(∃ K, records X W K ∗ hand (F := F) c)

/-! ## The invariants -/

/-- The kernel's own semaphores are those of its transfers, -/
theorem ownSems0_eq (c : Dev nD) : (Pipeline.ownSems0 (Ix := Unit) (Name := ℕ) (U := UU) (Lvl := ℕ) (Val := Elt F) (τ := τ) osem c : sProp 𝕄)
    = iprop((bigSep Finset.univ fun k : Xf => semVal (sendCell c k) 0) ∗ bigSep Finset.univ fun k : Xf => semVal (recvCell c k) 0) := by
  unfold Pipeline.ownSems0
  rw [bigSep_univ_prod, bigSep_univ_eq_bigSepL [true, false] (by decide) (by decide), bigSepL_cons_cons, bigSepL_singleton]
  rfl
/-- and there is its barrier. -/
theorem unscopedSems0_eq (c : Dev nD) : (unscopedSems0 c : sProp 𝕄) = semVal (barCell c) 0 := by
  unfold unscopedSems0
  rw [bigSep_eq_bigSepL_of_eq [SemLoc.reg barS] (by decide) (by decide)]; rfl

/-- One device's counters at zero and round states make its cells' invariants. -/
theorem make_cells (c : Dev nD) :
    iprop(Pipeline.ownSems0 (Ix := Unit) (Name := ℕ) (U := UU) (Lvl := ℕ) (Val := Elt F) (τ := τ) osem c ∗ unscopedSems0 c ∗ dealt X W c)
      ⊢ |={Set.univ}=> iprop((bigSep Finset.univ fun i : Ci => iprop(∃ κ : ℕ, cellInv ER (sched X W) κ (kcell (c, i))))
        ∗ places c ∗ (bigSep Finset.univ fun i : Ci => reached ER (kcell (c, i)) 0) ∗ minted c) := by
  have hv : iprop(Pipeline.ownSems0 (Ix := Unit) (Name := ℕ) (U := UU) (Lvl := ℕ) (Val := Elt F) (τ := τ) osem c ∗ unscopedSems0 c)
      ⊢ (bigSep Finset.univ fun i : Ci => semVal (kcell (c, i)) 0 : sProp 𝕄) := by
    rw [ownSems0_eq, unscopedSems0_eq, bigSep_ci]
    iintro ⟨⟨H1, H2⟩, H3⟩
    isplitl [H3]; · iexact H3
    isplitl [H1]; · iexact H1
    iexact H2
  have hi : iprop((bigSep Finset.univ fun i : Ci => semVal (kcell (c, i)) 0) ∗ bigSep Finset.univ fun i : Ci => roundState ER (sched X W) (kcell (c, i)) 0)
      ⊢ (|={Set.univ}=> bigSep Finset.univ fun i : Ci => iprop(∃ κ : ℕ, cellInv ER (sched X W) κ (kcell (c, i))) : sProp 𝕄) := by
    rw [← bigSep_sep']
    exact (bigSep_mono fun i _ => (Rounds.body_intro ER (sched X W) (kcell (c, i))).trans inv_alloc).trans (bigSep_fupd _ _)
  unfold dealt
  iintro ⟨H1, H2, H3, H4⟩
  ihave Hv := hv $$ [H1 H2]
  · iframe
  imod hi $$ [Hv H3] with H5
  · iframe
  imodintro
  iframe

/-- All devices' parts together arm every device. -/
theorem arm : (bigSep Finset.univ fun c : Dev nD => iprop((bigSep Finset.univ fun i : Ci => iprop(∃ κ : ℕ, cellInv ER (sched X W) κ (kcell (c, i))))
        ∗ places c ∗ (bigSep Finset.univ fun i : Ci => reached ER (kcell (c, i)) 0) ∗ minted c) : sProp 𝕄)
      ⊢ bigSep Finset.univ (armed X W) := by
  simp only [bigSep_sep']
  rw [← bigSep_univ_prod fun ci : Dev nD × Ci => iprop(∃ κ : ℕ, (cellInv ER (sched X W) κ (kcell ci) : sProp 𝕄)),
    ← bigSep_univ_prod fun ci : Dev nD × Ci => (reached ER (kcell ci) 0 : sProp 𝕄)]
  iintro ⟨H1, H2, H3, H4⟩
  ihave HK := (BI.bigSep_exists_pi Finset.univ (fun (ci : Dev nD × Ci) (κ : ℕ) => (cellInv ER (sched X W) κ (kcell ci) : sProp 𝕄))) $$ H1
  icases HK with ⟨%K, HK⟩
  ihave Hh := (share_out (F := F)) $$ [H2 H4]
  · iframe
  have hk : iprop(records X W K ∗ bigSep Finset.univ fun c : Dev nD => (hand c : sProp 𝕄)) ⊢ bigSep Finset.univ (armed X W) := by
    have h1 : iprop(records X W K ∗ bigSep Finset.univ fun c : Dev nD => (hand c : sProp 𝕄))
        ⊢ iprop((bigSep Finset.univ fun c : Dev nD => records X W K) ∗ bigSep Finset.univ fun c : Dev nD => (hand c : sProp 𝕄)) :=
      sep_mono_left (BI.bigSep_of_persistent Finset.univ (records X W K))
    refine h1.trans ?_
    rw [← bigSep_sep']
    refine bigSep_mono fun c _ => ?_
    have h2 : iprop(records X W K ∗ hand (F := F) c) ⊢ armed X W c := by
      unfold armed
      iintro H
      iexists K
      iexact H
    exact h2
  iapply hk
  unfold records
  isplitl [HK H3]
  · isplitl [HK]; · iexact HK
    iexact H3
  iexact Hh

/-- From the counters at zero and the launch's deal, all devices are armed. -/
theorem arm_all : (bigSep Finset.univ fun c => iprop(Pipeline.ownSems0 (Ix := Unit) (Name := ℕ) (U := UU) (Lvl := ℕ) (Val := Elt F) (τ := τ) osem c
      ∗ unscopedSems0 c ∗ dealt X W c) : sProp 𝕄)
    ⊢ |={Set.univ}=> bigSep Finset.univ (armed X W) :=
  ((bigSep_mono fun c _ => make_cells X W c).trans (bigSep_fupd _ _)).trans (BI.fupd_mono (arm X W))

/-! ## The credits -/

theorem tally_cell (a a' : Dev nD × Ci) (n : ℕ) : (tallyAt (kcell a) () n : CellTallies nD τ sig Unit) (kcell a') () = if a' = a then n else 0 := by
  rw [tallyAt_apply]
  by_cases h : a' = a
  · rw [if_pos ⟨congrArg kcell h, rfl⟩, if_pos h]
  · rw [if_neg fun h' => h (kcell_eq h'.1), if_neg h]

/-- A debt of transfers is owed to no barrier; -/
theorem debt_bar (d c : Dev nD) : ∀ l : List Xf, debt d l (barCell c) () = 0
  | [] => rfl
  | k :: l => by
    unfold debt
    rw [Pi.add_apply, Finsupp.add_apply, debt_bar d c l, show barCell c = kcell (c, .inl ()) from rfl,
      show recvCell (tgt k.1 d) k = kcell (tgt k.1 d, .inr (false, k)) from rfl, tally_cell, if_neg (fun h => by cases congrArg Prod.snd h)]
/-- and to an arrival semaphore it is one block if the transfer is among them. -/
theorem debt_recv (d c : Dev nD) (k : Xf) : ∀ l : List Xf, l.Nodup → debt d l (recvCell c k) () = if k ∈ l ∧ c = tgt k.1 d then N else 0
  | [], _ => by rw [if_neg fun h => by cases h.1]; rfl
  | k' :: l, hl => by
    unfold debt
    rw [Pi.add_apply, Finsupp.add_apply, debt_recv d c k l (List.nodup_cons.mp hl).2, show recvCell c k = kcell (c, .inr (false, k)) from rfl,
      show recvCell (tgt k'.1 d) k' = kcell (tgt k'.1 d, .inr (false, k')) from rfl, tally_cell]
    by_cases hk : k = k'
    · subst hk
      rw [if_neg fun h => (List.nodup_cons.mp hl).1 h.1, Nat.zero_add]
      by_cases hc : c = tgt k.1 d
      · rw [if_pos (by rw [hc]), if_pos ⟨List.mem_cons_self, hc⟩]
      · rw [if_neg fun h => hc (congrArg Prod.fst h), if_neg fun h => hc h.2]
    · rw [if_neg (c := (c, _) = (_, _)) (fun h => hk (by have := Sum.inr.inj (congrArg Prod.snd h); exact congrArg Prod.snd this)), Nat.add_zero]
      by_cases h : k ∈ l ∧ c = tgt k.1 d
      · rw [if_pos h, if_pos ⟨List.mem_cons_of_mem _ h.1, h.2⟩]
      · rw [if_neg h, if_neg fun h' => h ⟨(List.mem_cons.mp h'.1).resolve_left hk, h'.2⟩]

theorem src_iff (b : Bool) (c d : Dev nD) : Iff (c = src b d) (d = tgt b c) :=
  ⟨fun h => by rw [h, tgt_src], fun h => by rw [h, src_tgt]⟩
theorem tgt_iff (b : Bool) (c d : Dev nD) : Iff (c = tgt b d) (d = src b c) :=
  ⟨fun h => by rw [h, src_tgt], fun h => by rw [h, tgt_src]⟩

theorem owed_barrier (d c : Dev nD) : O₀ d (barCell c) () = (if d = tgt false c then 1 else 0) + (if d = tgt true c then 1 else 0) := by
  have h (b : Bool) : (tallyAt (barCell (src b d)) () 1 : CellTallies nD τ sig Unit) (barCell c) () = if d = tgt b c then 1 else 0 := by
    rw [show barCell (src b d) = kcell (src b d, .inl ()) from rfl, show barCell c = kcell (c, .inl ()) from rfl, tally_cell]
    by_cases hd : c = src b d
    · rw [if_pos (by rw [hd]), if_pos ((src_iff b c d).mp hd)]
    · rw [if_neg fun h => hd (congrArg Prod.fst h), if_neg fun h => hd ((src_iff b c d).mpr h)]
  unfold O₀ O₁
  rw [Pi.add_apply, Finsupp.add_apply, Pi.add_apply, Finsupp.add_apply, debt_bar, h, h, Nat.zero_add]

theorem mem_allSends : ∀ k : Xf, k ∈ allSends := by decide

theorem owed_arrival (d c : Dev nD) (k : Xf) : O₀ d (recvCell c k) () = if d = src k.1 c then N else 0 := by
  have h (b : Bool) : (tallyAt (barCell (src b d)) () 1 : CellTallies nD τ sig Unit) (recvCell c k) () = 0 := by
    rw [show barCell (src b d) = kcell (src b d, .inl ()) from rfl, show recvCell c k = kcell (c, .inr (false, k)) from rfl, tally_cell,
      if_neg (fun h => by cases congrArg Prod.snd h)]
  unfold O₀ O₁
  rw [Pi.add_apply, Finsupp.add_apply, Pi.add_apply, Finsupp.add_apply, h, h]
  refine (debt_recv d c k allSends (by decide)).trans ?_
  by_cases hd : c = tgt k.1 d
  · rw [if_pos ⟨mem_allSends k, hd⟩, if_pos ((tgt_iff k.1 c d).mp hd)]
  · rw [if_neg fun h' => hd h'.2, if_neg fun h' => hd ((tgt_iff k.1 c d).mpr h')]

/-- All devices together owe a barrier two units, -/
theorem credit_barrier (c : Dev nD) :
    tallyOn (barCell c) (launchCredit (Pipeline.owing O₀) 0 (barCell c)) = (tallyAt (barCell c) () 2 : CellTallies nD τ sig Unit) := by
  unfold tallyAt
  refine congrArg _ (Finsupp.ext fun u => ?_)
  cases u
  rw [Pipeline.launchCredit_owing, Finsupp.single_eq_same, Finset.sum_congr rfl fun d _ => owed_barrier d c, Finset.sum_add_distrib,
    Finset.sum_ite_eq' Finset.univ (tgt false c) fun _ => 1, Finset.sum_ite_eq' Finset.univ (tgt true c) fun _ => 1,
    if_pos (Finset.mem_univ _), if_pos (Finset.mem_univ _)]
/-- and an arrival semaphore one block. -/
theorem credit_arrival (c : Dev nD) (k : Xf) :
    tallyOn (recvCell c k) (launchCredit (Pipeline.owing O₀) 0 (recvCell c k)) = (tallyAt (recvCell c k) () N : CellTallies nD τ sig Unit) := by
  unfold tallyAt
  refine congrArg _ (Finsupp.ext fun u => ?_)
  cases u
  rw [Pipeline.launchCredit_owing, Finsupp.single_eq_same, Finset.sum_congr rfl fun d _ => owed_arrival d c k,
    Finset.sum_ite_eq' Finset.univ (src k.1 c) fun _ => N, if_pos (Finset.mem_univ _)]

/-- So at launch a device holds the credits it waits with. -/
theorem credits (c : Dev nD) :
    (Pipeline.launchCred O₀ c : sProp 𝕄) ⊢ iprop(cred (tallyAt (barCell c) () 2) ∗ bigSep Finset.univ fun k : Xf => cred (tallyAt (recvCell c k) () N)) := by
  have hcs (Φ : SemLoc sig → sProp 𝕄) : bigSep Finset.univ Φ ⊢ bigSep Finset.univ fun i : Ci => Φ (csem i) := by
    rw [show (bigSep Finset.univ fun i : Ci => Φ (csem i)) = bigSep (Finset.univ.map ⟨csem, csem_injective⟩) Φ from (bigSep_map ⟨csem, csem_injective⟩).symm]
    exact bigSep_subset (Finset.subset_univ _)
  unfold Pipeline.launchCred
  refine (hcs _).trans ?_
  rw [bigSep_ci]
  have h : iprop(cred (tallyOn (barCell c) (launchCredit (Pipeline.owing O₀) 0 (barCell c)))
      ∗ (bigSep Finset.univ fun k : Xf => cred (tallyOn (sendCell c k) (launchCredit (Pipeline.owing O₀) 0 (sendCell c k))))
      ∗ bigSep Finset.univ fun k : Xf => cred (tallyOn (recvCell c k) (launchCredit (Pipeline.owing O₀) 0 (recvCell c k))))
      ⊢ (iprop(cred (tallyAt (barCell c) () 2) ∗ bigSep Finset.univ fun k : Xf => cred (tallyAt (recvCell c k) () N)) : sProp 𝕄) := by
    simp only [credit_barrier, credit_arrival]
    iintro ⟨H1, -, H3⟩
    iframe
  exact h

end Cert.AllToAllSum

end
-- ==== Proof.Launch.lean ====
/-
# The launch

All devices run the kernel's body from the launch: every execution ends, with the result at its computed value, the
arguments as they were and all semaphores at zero.
-/
module

public import proofs.«01_k».proof.Proof.Ghost
public import proofs.«01_k».proof.Proof.Gen.KernelIdeal.Frame
public import Idealize.ShloMosaic.Lib.Pipeline.CollectiveSegs
public import Idealize.ShloMosaic.Lib.Tactic

@[expose] public section

noncomputable section

namespace Cert.AllToAllSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The state at launch. -/
def start : MemSt nD τ sig (Elt F) := ⟨m, fun _ => 0, ρ⟩

/-- The block of the left factor a device is given, -/
def xs (c : Dev nD) : FVec F S2048x512 .bf16 := iblk m c 0 t0_0
/-- and that of the right factor. -/
def ws (c : Dev nD) : FVec F S512x2048 .bf16 := iblk m c 1 t0_0

/-- What a device holds besides its windows before the body, -/
def held₀ (c : Dev nD) : sProp 𝕄 :=
  iprop((armed (xs m) (ws m) c ∗ (cred (tallyAt (barCell c) () 2) ∗ bigSep Finset.univ fun k : Xf => cred (tallyAt (recvCell c k) () N)) ∗ levAts L lv)
    ∗ (slots (F := F) c true ∗ slots (F := F) c false) ∗ ∃ x, xbuf (F := F) c x)
/-- and after it. -/
def held₁ (c : Dev nD) : sProp 𝕄 :=
  iprop(zeros (F := F) c ∗ (slots (F := F) c true ∗ slots (F := F) c false) ∗ ∃ x, xbuf (F := F) c x)

def dats (_ : Fin 1) (c : Dev nD) : Dat τ (Elt F) Unit ℕ UU ℕ cfg0 c where
  A w := V m c (Pipeline.arrRef spec0 w)
  after w _ := match w with
    | ⟨0, _⟩ => xs m c
    | ⟨1, _⟩ => ws m c
    | ⟨2, _⟩ => outAt (xs m) (ws m) c
  Φ t := match t with
    | ⟨0, _⟩ => held₀ m c
    | ⟨_ + 1, _⟩ => held₁ c
  q _ := fullShare
  owed t := match t with
    | ⟨0, _⟩ => O₀ c
    | ⟨_ + 1, _⟩ => 0

/-! ## The body -/

theorem before_x (c : Dev nD) (d) : (dats m 0 c).before (0 : Fin 3) t0_0 d = xs m c := by
  unfold Dat.before; rw [if_pos (fetch0_0 t0_0)]; rfl
theorem before_w (c : Dev nD) (d) : (dats m 0 c).before (1 : Fin 3) t0_0 d = ws m c := by
  unfold Dat.before; rw [if_pos (fetch0_1 t0_0)]; rfl

/-- A window's buffer held whole. -/
theorem owns_whole (c : Dev nD) (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) ((c : Thread nD τ).loc b), ⌜f = v⌝ ∗ (((c : Thread nD τ).loc b) ↦{fullShare} f)) := by
  unfold owns
  simp only [Memref.view_whole, View.read_whole, View.set_whole]

/-- A window's buffer with contents `v`. -/
def full (c : Dev nD) (b : Ref sig .tc) (v : b.ty.Contents (Elt F)) : sProp 𝕄 :=
  iprop(∃ f : Buf (Elt F) ((c : Thread nD τ).loc b), ⌜f = v⌝ ∗ (((c : Thread nD τ).loc b) ↦{fullShare} f))

def entry (c : Dev nD) : sProp 𝕄 :=
  iprop(held₀ m c ∗ (dats m 0 c).owesAt () t0_0.castSucc
    ∗ (∃ d, full c cc0_stg0_0 ((dats m 0 c).before (0 : Fin 3) t0_0 d))
    ∗ (∃ d, full c cc0_stg1_0 ((dats m 0 c).before (1 : Fin 3) t0_0 d))
    ∗ ∃ d, full c cc0_stg2_0 ((dats m 0 c).before (2 : Fin 3) t0_0 d))
def exit (c : Dev nD) : sProp 𝕄 :=
  iprop(held₁ c ∗ (dats m 0 c).owesAt () t0_0.succ
    ∗ full c cc0_stg0_0 (xs m c) ∗ full c cc0_stg1_0 (ws m c) ∗ full c cc0_stg2_0 (outAt (xs m) (ws m) c))

/-- What a device is given is what its body asks for; -/
theorem entry_before (c : Dev nD) : entry m c ⊢ iprop(∃ K, before (xs m) (ws m) K c) := by
  unfold entry held₀ armed hand before full
  simp only [before_x, before_w]
  unfold Dat.owesAt Pipeline.owesWithin
  rw [show (dats m 0 c).owed t0_0.castSucc = O₀ c from rfl]
  iintro ⟨⟨⟨⟨%K, Hrec, Hbar, Ht1, Ht2, Hr, Hv⟩, ⟨Hc1, Hc2⟩, Hlev⟩, Hs, Hx⟩, ⟨%V, -, Ho⟩, ⟨%d0, %f0, %h0, Hf0⟩, ⟨%d1, %f1, %h1, Hf1⟩, ⟨%d2, %f2, -, Hf2⟩⟩
  subst h0 h1
  iexists K
  isplitl [Hrec Hlev]
  · unfold laws; iframe
  isplitl [Hbar Ht1 Ht2 Hr Hv Hc1 Hc2]
  · unfold stake due
    rw [bigSep_sep']
    iframe
  isplitl [Ho]
  · unfold ow; iexists V; iexact Ho
  isplitl [Hs]; · iexact Hs
  isplitl [Hx]; · iexact Hx
  isplitl [Hf0 Hf1]
  · unfold inputs
    isplitl [Hf0]; · iexact Hf0
    iexact Hf1
  iexists f2
  unfold obuf
  iexact Hf2

/-- and what its body leaves is what it gives back. -/
theorem after_exit (c : Dev nD) : after (xs m) (ws m) c ⊢ exit m c := by
  unfold exit held₁ after full inputs obuf
  simp only [puts_eq]
  unfold ow Dat.owesAt Pipeline.owesWithin
  rw [show (dats m 0 c).owed t0_0.succ = 0 from rfl]
  iintro ⟨Hz, ⟨%V, Ho⟩, Hs, Hx, ⟨Hf0, Hf1⟩, ⟨%f, Hf2⟩⟩
  isplitl [Hz Hs Hx]
  · isplitl [Hz]; · iexact Hz
    isplitl [Hs]; · iexact Hs
    iexists (xs m c); iexact Hx
  isplitl [Ho]
  · iexists V
    isplitr
    · ipureintro; exact fun _ _ => Or.inl trivial
    iexact Ho
  isplitl [Hf0]
  · iexists _; isplitr
    · ipureintro; rfl
    iexact Hf0
  isplitl [Hf1]
  · iexists _; isplitr
    · ipureintro; rfl
    iexact Hf1
  iexists _; isplitr
  · ipureintro; rfl
  iexact Hf2

theorem bigSep_windows (Φ : Fin cfg0.W → sProp 𝕄) : bigSep Finset.univ Φ = iprop(Φ (0 : Fin 3) ∗ Φ (1 : Fin 3) ∗ Φ (2 : Fin 3)) := bigSep_W0 Φ

set_option maxRecDepth 40000 in
/-- The body on a device takes the one to the other. -/
theorem body_ok (c : Dev nD) : BodyObligation (dats (F := F) m 0 c) (defs₀ (F := F)) 𝒱₀ () Set.univ := fun t => by
  rw [fin_N0 t]
  rw [bigSep_windows, bigSep_windows]
  simp only [owns_whole]
  show entry m c ⊢ wp frame (wpE (defs₀ (F := F)) 𝒱₀ c none) Set.univ
    (cc0_body (F := F) xM (Memref.isWhole_whole _) wM (Memref.isWhole_whole _) oM (Memref.isWhole_whole _)
      bM (Memref.isWhole_whole _) (commM true) (Memref.isWhole_whole _) (commM false) (Memref.isWhole_whole _) (sendA true) (recvA true) (sendA false) (recvA false))
    (fun _ => exit m c)
  iintro H
  ihave H' := (entry_before m c) $$ H
  icases H' with ⟨%K, H'⟩
  iapply (sound_body (xs m) (ws m) K c (Q := fun _ => exit m c)) $$ H'
  iintro H
  iapply (after_exit m c)
  iexact H

/-! ## The side conditions -/

theorem ownSemFacts : Pipeline.OwnSemFacts cfg0.spec osem := by decide

theorem share_full (c : Dev nD) (w : Fin cfg0.W) : (dats m 0 c).share w = fullShare := by unfold Dat.share; split <;> rfl

/-- What the launch gives a device for its body. -/
def given (c : Dev nD) : sProp 𝕄 :=
  iprop(armed (xs m) (ws m) c ∗ (cred (tallyAt (barCell c) () 2) ∗ bigSep Finset.univ fun k : Xf => cred (tallyAt (recvCell c k) () N)) ∗ levAts L lv)

theorem given_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ armed (xs m) (ws m) c)
      ⊢ |={Set.univ}=> iprop(given m c ∗ emp) := by
  iintro ⟨-, Hl, Hc, -, Ha⟩
  ihave Hc' := (credits (F := F) c) $$ Hc
  imodintro
  unfold given
  isplitl
  · isplitl [Ha]; · iexact Ha
    isplitl [Hc']; · iexact Hc'
    iexact Hl
  · iempintro

theorem held_intro (c : Dev nD) :
    iprop(given m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = held₀ m c from rfl, scopedRest0_eq]
  unfold held₀ given
  iintro ⟨Hg, -, ⟨%f, Hx⟩, Ht, Hf⟩
  isplitl [Hg]; · iexact Hg
  isplitl [Ht Hf]
  · isplitl [Ht]
    · iapply (slots_split c true); iexact Ht
    · iapply (slots_split c false); iexact Hf
  iexists f
  unfold xbuf
  iexact Hx

theorem held_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = held₁ c from rfl, scopedRest0_eq, ownSems0_eq, unscopedSems0_eq]
  unfold held₁ zeros
  iintro ⟨⟨H1, H2⟩, ⟨Ht, Hf⟩, ⟨%x, Hx⟩⟩
  isplitl [H1]; · iexact H1
  isplitl [H2]; · iexact H2
  isplitl [Hx]
  · iexists _
    unfold xbuf
    iexact Hx
  isplitl [Ht]
  · iapply (slots_join c true); iexact Ht
  · iapply (slots_join c false); iexact Hf

theorem waits_ok (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What a window's array holds at the end. -/
def final (c : Dev nD) (w : Fin cfg0.W) : Buf (Elt F) ((cfg0.win w).arr.view.loc (c : Thread nD τ)) := (dats m 0 c).arrAt w cfg0.N

def Ends : PUnit × MemSt nD τ sig (Elt F) → Prop := fun r =>
  ∀ c : Dev nD, ∀ w : Fin cfg0.W, r.2.mem ((cfg0.win w).arr.view.loc (c : Thread nD τ)) = final m c w

set_option maxRecDepth 8000 in
/-- From any memory with all semaphores at zero, every fair execution of the four devices ends, every window's array
    holding its final contents and every semaphore at zero. -/
theorem run_main : θ_run defs (onTc (τ := τ) (main (F := F))) (start m ρ) (fun r => Ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_ok m) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits_ok m)
    (G := dealt (xs m) (ws m)) (G' := armed (xs m) (ws m)) (u₀ := u₀)
    (hu₀ := by
      unfold u₀
      iintro Hu
      ihave H := (ownU_pair _ _) $$ Hu
      icases H with ⟨HP, HX⟩
      imod (deal (xs m) (ws m)) $$ HX with HG
      imodintro
      isplitl [HP] <;> iassumption)
    (hglob := arm_all (xs m) (ws m))
    (hA := fun _ _ => rfl) (hpf := fun _ k => k.elim0)
    (X := given m) (Y := fun c => unscopedSems0 c) (Z := fun _ => iprop(emp))
    (hX := given_intro m ρ) (hin := held_intro m) (hout := held_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments' arrays hold what they held. -/
theorem final_x (c : Dev nD) : final m c (0 : Fin 3) = m ((c : Thread nD τ).loc main_arg0) := (dats m 0 c).arrAt_in (0 : Fin 3) rfl _
theorem final_w (c : Dev nD) : final m c (1 : Fin 3) = m ((c : Thread nD τ).loc main_arg1) := (dats m 0 c).arrAt_in (1 : Fin 3) rfl _

end Cert.AllToAllSum

end
-- ==== Proof.Value.lean ====
/-
# The result's value

Over the reals every block of the result is a sum of four products, one per device, taken in the order in which the
block travels. Together they are the product of the two whole factors over their 2048 common entries.
-/
module

public import proofs.«01_k».proof.Proof.Launch
public import proofs.«01_k».proof.Proof.Gen.ReferenceIdeal.Run
public import Idealize.ShloMosaic.Lib.Pipeline.ValueKit.Point
public import Idealize.ShloMosaic.Lib.ValueLayout
public import Idealize.ShloMosaic.Lib.MatmulPlain
public import Idealize.ShloMosaic.Lib.StackMember

@[expose] public section

noncomputable section

namespace Cert.AllToAllSum

open Cert.KernelIdeal Cert.KernelIdeal.Gen
open Idealize.ShloMosaic hiding ix2 eq_ix2
open Idealize.ShloMosaic.TcCoe
open Idealize.ShloMosaic.ValueIdx (ix2 eq_ix2)
open scoped BigOperators

/-! ## One product -/

section Products

variable (X : FVec Ideal S2048x512 .bf16) (W : FVec Ideal S512x2048 .bf16)

/-- Row `r` of part `d` of the left factor. -/
def rowAt (d : Dev nD) (r : Fin 512) : Fin 2048 := ⟨512 * d.val + r.val, by have : d.val < 4 := d.isLt; have := r.isLt; omega⟩

theorem xblk_apply (d : Dev nD) (r k : Fin 512) : xblk X d (ix2 r k) = X (ix2 (rowAt d r) k) := by
  unfold xblk
  rw [View.readAt_apply]
  refine congrArg X (funext fun a => Fin.ext ?_)
  match a with
  | ⟨0, _⟩ => show 512 * d.val + 1 * r.val = 512 * d.val + r.val; omega
  | ⟨1, _⟩ => show 0 + 1 * k.val = k.val; omega

theorem colOff_le : ∀ (b : Bool) (j : Fin 2), colOff b j ≤ 1536 := by decide

/-- The column of the whole that is column `q` of half `j` of direction `b`. -/
def colAt (b : Bool) (j : Fin 2) (q : Fin 512) : Fin 2048 :=
  ⟨colOff b j + q.val, by have := q.isLt; have := colOff_le b j; omega⟩

theorem wcol_apply (b : Bool) (j : Fin 2) (k q : Fin 512) : wcol W b j (ix2 k q) = W (ix2 k (colAt b j q)) :=
  ValueIdx.slice2_axis1_apply (colOff b j) W (col_slices b j) k q (colAt b j q) rfl

/-- A product of two blocks, entry by entry. -/
theorem prod_apply (b : Bool) (j : Fin 2) (d : Dev nD) (r q : Fin 512) :
    prod X W b j d (ix2 r q) = ∑ k : Fin 512, X (ix2 (rowAt d r) k) * W (ix2 k (colAt b j q)) := by
  unfold prod
  refine (Ideal.matmul_plain_apply (M := 512) (K := 512) (N := 512) none (xblk X d) (wcol W b j) (constant S512x512 .f32 0x00000000#32) r q).trans ?_
  rw [show constant (F := Ideal) S512x512 .f32 0x00000000#32 (ix2 r q) = 0 from Ideal.ofBits_zero_f32, zero_add]
  exact Finset.sum_congr rfl fun k _ => by rw [xblk_apply, wcol_apply]

end Products

/-! ## The sum over the devices -/

theorem around : ∀ (b : Bool) (c : Dev nD), (Finset.univ : Finset (Dev nD)) = {src b (src b (src b c)), src b (src b c), src b c, c} := by decide
theorem apart : ∀ (b : Bool) (c : Dev nD), src b (src b (src b c)) ∉ ({src b (src b c), src b c, c} : Finset (Dev nD))
    ∧ src b (src b c) ∉ ({src b c, c} : Finset (Dev nD)) ∧ src b c ∉ ({c} : Finset (Dev nD)) := by decide

/-- Adding up along a direction, ending at device `c`, adds up over all devices. -/
theorem sum_around (b : Bool) (c : Dev nD) (f : Dev nD → EReal) :
    f (src b (src b (src b c))) + f (src b (src b c)) + f (src b c) + f c = ∑ d : Dev nD, f d := by
  obtain ⟨h1, h2, h3⟩ := apart b c
  rw [around b c, Finset.sum_insert h1, Finset.sum_insert h2, Finset.sum_insert h3, Finset.sum_singleton, add_assoc, add_assoc]

/-- Wherever a block is on its way, the products added to it are those for the device it ends at. -/
theorem dest_src : ∀ (b : Bool) (c : Dev nD), dest b 0 (src b (src b (src b c))) = c ∧ dest b 1 (src b (src b c)) = c ∧ dest b 2 (src b c) = c
    ∧ dest b 3 c = c := by decide

section Sums

variable (X : Dev nD → FVec Ideal S2048x512 .bf16) (W : Dev nD → FVec Ideal S512x2048 .bf16)

theorem tile_eq (b : Bool) (j : Fin 2) (c : Dev nD) (i : S512x512.Idx) : tile X W b j c i = ∑ d : Dev nD, prod (X d) (W d) b j c i := by
  obtain ⟨h0, h1, h2, h3⟩ := dest_src b c
  rw [← sum_around b c]
  unfold tile sent prodB
  rw [h0, h1, h2, h3]
  rfl

theorem col_split (q : Fin 2048) : colAt (dirOf q.val) (halfOf q.val) ⟨q.val % 512, Nat.mod_lt _ (by decide)⟩ = q := by
  have h := (col_iff q.val q.isLt (dirOf q.val) (halfOf q.val)).mpr ⟨rfl, rfl⟩
  have hm := colOff_mod (dirOf q.val) (halfOf q.val)
  refine Fin.ext ?_
  show colOff (dirOf q.val) (halfOf q.val) + q.val % 512 = q.val
  omega

/-- An entry of the result is the sum, over the devices, of their products' entries. -/
theorem outAt_apply (c : Dev nD) (r : Fin 512) (q : Fin 2048) :
    outAt X W c (ix2 r q) = ∑ d : Dev nD, ∑ k : Fin 512, X d (ix2 (rowAt c r) k) * W d (ix2 k q) := by
  have hi : inTile (ix2 r q) = ix2 r ⟨q.val % 512, Nat.mod_lt _ (by decide)⟩ := by
    funext a
    match a with
    | ⟨0, _⟩ => rfl
    | ⟨1, _⟩ => rfl
  rw [show outAt X W c (ix2 r q) = tile X W (dirOf q.val) (halfOf q.val) c (inTile (ix2 r q)) from rfl, hi, tile_eq]
  refine Finset.sum_congr rfl fun d _ => ?_
  rw [prod_apply, col_split]

end Sums

/-! ## The reference -/

/-- The product of the whole factors, device by device of the common entries. -/
theorem dot_split (A B : FVec Ideal (⟨2, ![2048, 2048]⟩ : Shape) .f32) (p q : Fin 2048) :
    Host.dotGeneral Cert.ReferenceIdeal.dot_S2048x2048_S2048x2048_S2048x2048_1_0_0_1_n_n none A B (ix2 p q)
      = ∑ d : Dev nD, ∑ k : Fin 512, A (ix2 p (rowAt d k)) * B (ix2 (rowAt d k) q) := by
  refine (StackMember.dotGeneral_plain_apply (m := 2048) (k := 2048) (n := 2048) none A B p q).trans ?_
  rw [← Fintype.sum_prod_type' fun (d : Dev nD) (k : Fin 512) => A (ix2 p (rowAt d k)) * B (ix2 (rowAt d k) q)]
  refine (Equiv.sum_comp (finProdFinEquiv (m := 4) (n := 512)) fun k : Fin 2048 => A (ix2 p k) * B (ix2 k q)).symm.trans ?_
  refine Finset.sum_congr rfl fun x _ => ?_
  rw [show (finProdFinEquiv (m := 4) (n := 512) x : Fin 2048) = rowAt x.1 x.2 from Fin.ext (Nat.add_comm _ _)]

/-- The whole result: the product of the factors. -/
def whole (A B : FVec Ideal (⟨2, ![2048, 2048]⟩ : Shape) .bf16) : FVec Ideal (⟨2, ![2048, 2048]⟩ : Shape) .f32 :=
  Host.dotGeneral Cert.ReferenceIdeal.dot_S2048x2048_S2048x2048_S2048x2048_1_0_0_1_n_n none
    (extf .f32 A Cert.ReferenceIdeal.Facts₀.bitsLt_bf16_f32) (extf .f32 B Cert.ReferenceIdeal.Facts₀.bitsLt_bf16_f32)

/-- Where the entries of a block of rows stand in the whole, -/
theorem row_idx (h : Layout.Tiles ⟨2, ![512, 2048]⟩ ⟨2, ![2048, 2048]⟩ 0 4) (d : Dev nD) (r : Fin 512) (q : Fin 2048) :
    h.idx d (ix2 r q) = ix2 (rowAt d r) q := by
  funext a
  refine Fin.ext ?_
  match a with
  | ⟨0, _⟩ => show d.val * 512 + r.val = 512 * d.val + r.val; omega
  | ⟨1, _⟩ => rfl
/-- and those of a block of columns. -/
theorem col_idx (h : Layout.Tiles ⟨2, ![2048, 512]⟩ ⟨2, ![2048, 2048]⟩ 1 4) (d : Dev nD) (p : Fin 2048) (k : Fin 512) :
    h.idx d (ix2 p k) = ix2 p (rowAt d k) := by
  funext a
  refine Fin.ext ?_
  match a with
  | ⟨0, _⟩ => rfl
  | ⟨1, _⟩ => show d.val * 512 + k.val = 512 * d.val + k.val; omega

/-- With the devices' blocks of the factors, every device computes its block of the product. -/
theorem outAt_block (A B : FVec Ideal (⟨2, ![2048, 2048]⟩ : Shape) .bf16) (c : Dev nD) :
    outAt (fun d => Layout.block ⟨2, ![2048, 512]⟩ ⟨2, ![2048, 2048]⟩ 1 4 d A) (fun d => Layout.block ⟨2, ![512, 2048]⟩ ⟨2, ![2048, 2048]⟩ 0 4 d B) c
      = Layout.block ⟨2, ![512, 2048]⟩ ⟨2, ![2048, 2048]⟩ 0 4 c (whole A B) := by
  funext i
  obtain ⟨r, q, rfl⟩ : ∃ (r : Fin 512) (q : Fin 2048), i = ix2 r q := ⟨i 0, i 1, eq_ix2 i⟩
  rw [outAt_apply, Layout.block_apply, row_idx]
  refine Eq.symm ((dot_split _ _ (rowAt c r) q).trans (Finset.sum_congr rfl fun d _ => Finset.sum_congr rfl fun k _ => ?_))
  rw [Layout.block_apply, Layout.block_apply, col_idx, row_idx]
  rfl

/-! ## The memory at the end -/

section Memory

variable {F : FTy → Type} [FloatOps F] (m : (ℓ : Loc nD τ sig) → Buf (Elt F) ℓ)

/-- The left window is all of the device's left argument, -/
theorem xs_eq (c : Dev nD) : xs m c = m ((c : Thread nD τ).loc main_arg0) := by
  unfold xs iblk
  funext i
  rw [View.read_apply, cast_eq]
  refine congrArg (m ((c : Thread nD τ).loc main_arg0)) (funext fun a => Fin.ext ?_)
  match a with
  | ⟨0, _⟩ => show 0 + 1 * (i 0).val = (i 0).val; omega
  | ⟨1, _⟩ => show 0 + 1 * (i 1).val = (i 1).val; omega
/-- and the right one of its right argument. -/
theorem ws_eq (c : Dev nD) : ws m c = m ((c : Thread nD τ).loc main_arg1) := by
  unfold ws iblk
  funext i
  rw [View.read_apply, cast_eq]
  refine congrArg (m ((c : Thread nD τ).loc main_arg1)) (funext fun a => Fin.ext ?_)
  match a with
  | ⟨0, _⟩ => show 0 + 1 * (i 0).val = (i 0).val; omega
  | ⟨1, _⟩ => show 0 + 1 * (i 1).val = (i 1).val; omega

/-- The result's array ends with what the body leaves in its window. -/
theorem final_out (c : Dev nD) : final m c (2 : Fin 3) = outAt (xs m) (ws m) c :=
  (dats m 0 c).arrAt_eq_of_after_last (2 : Fin 3) t0_0 (by decide +kernel) _ (fun _ => rfl)

end Memory

end Cert.AllToAllSum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem Cert.AllToAllSum

section Kernel

open Cert.KernelIdeal

variable {F : FTy → Type} [FloatOps F] (m : (ℓ : Loc nD τ sig) → Buf (Elt F) ℓ) (ρ : Dev nD → PrngReg)

/-- On any floats, from any memory: the four devices run to the end, every device's result is the computed one, its
    arguments are as they were, and all semaphores are at zero. -/
theorem kernel_run : θ_run defs (onTc (τ := τ) (main (F := F))) ⟨m, fun _ => 0, ρ⟩ (fun r => (∀ c : Dev nD,
      r.2.mem ((c.tc : Thread nD τ).loc main_v1) = outAt (xs m) (ws m) c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨(h.1 c 2).trans (final_out m c), (h.1 c 0).trans (final_x m c), (h.1 c 1).trans (final_w m c)⟩, h.2⟩)
    (run_main m ρ)

end Kernel

/-- The kernel runs to the end, its arguments unchanged and its semaphores at zero. -/
theorem frame_kernel : Cert.quiescent_Kernel := fun m g _ => same_run _ _
  ((θ_run (Cert.KernelIdeal.defs (F := Bits)) _ _).mono (fun _ h => ⟨fun c => (h.1 c).2, h.2⟩) (kernel_run (F := Bits) m g))

/-- So it does over the reals. -/
theorem frame_ideal : Cert.quiescent_KernelIdeal := fun m g _ =>
  (θ_run (Cert.KernelIdeal.defs (F := Ideal)) _ _).mono (fun _ h => ⟨fun c => (h.1 c).2, h.2⟩) (kernel_run (F := Ideal) m g)

/-- The reference runs to the end with its arguments unchanged; it declares no semaphore. -/
theorem frame_reference : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

/-- Over the reals every device's result is its block of the reference's. -/
theorem value : Cert.algebraic_KernelIdeal_ReferenceIdeal := fun m g m' g' _ hblk =>
  ⟨whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run (Cert.KernelIdeal.defs (F := Ideal)) _ _).mono (fun _ h c => ⟨(h.1 c).1.trans (by
        rw [show xs m = _ from funext fun d => (xs_eq m d).trans (hblk d).1, show ws m = _ from funext fun d => (ws_eq m d).trans (hblk d).2]
        exact outAt_block _ _ c), (h.1 c).2⟩) (kernel_run (F := Ideal) m g),
    (θ_run (Cert.ReferenceIdeal.defs (F := Ideal)) _ _).mono (fun _ h => h 0) (Cert.ReferenceIdeal.Value.run (F := Ideal) m' g')⟩

/-- The whole claim. -/
theorem claim : Cert.Claim := ⟨Cert.Kernel.Gen.facts, Cert.KernelIdeal.Gen.facts, Cert.ReferenceIdeal.Gen.facts,
  frame_kernel, frame_ideal, frame_reference, trivial, value⟩

end Cert.Proof

end
